-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x2048 : Shape := ⟨2, ![4096, 2048]⟩
abbrev S256x2048 : Shape := ⟨2, ![256, 2048]⟩
abbrev S16x256x256 : Shape := ⟨3, ![16, 256, 256]⟩
abbrev S8x256x2048 : Shape := ⟨3, ![8, 256, 2048]⟩
abbrev S8 : Shape := ⟨1, ![8]⟩
abbrev S16 : Shape := ⟨1, ![16]⟩
abbrev S1 : Shape := ⟨1, ![1]⟩
abbrev S_ : Shape := ⟨0, ![]⟩
abbrev S1x256x2048 : Shape := ⟨3, ![1, 256, 2048]⟩
abbrev S1x256x256 : Shape := ⟨3, ![1, 256, 256]⟩
abbrev S256x256 : Shape := ⟨2, ![256, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S256x2048, .f32⟩
  | .local _ .vmem, ⟨0, _⟩ => ⟨S4096x256, .f32⟩
  | .local _ .vmem, ⟨1, _⟩ => ⟨S256x2048, .f32⟩
  | .local _ .vmem, ⟨2, _⟩ => ⟨S4096x256, .bf16⟩
  | .local _ .vmem, ⟨3, _⟩ => ⟨S16x256x256, .bf16⟩
  | .local _ .vmem, ⟨4, _⟩ => ⟨S8x256x2048, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => false
  | ⟨1, _⟩ => true
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 2 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v89 : BitVec 32 := Scalar.muli v2 c256_i32
  let c0_i32_71 : BitVec 32 := 0#32
  ![v89.toNat, 0]
def k0_off2 (d0 : Dev nD) (c1_i32_2 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_1 : BitVec 32 := 4#32
  let v5 : BitVec 32 := Scalar.muli v3 c4_i32_1
  let c4_i32_0 : BitVec 32 := 4#32
  let v4 : BitVec 32 := Scalar.remsi v2 c4_i32_0
  let v6 : BitVec 32 := Scalar.addi v4 c1_i32_2
  let c4_i32_3 : BitVec 32 := 4#32
  let v7 : BitVec 32 := Scalar.remsi v6 c4_i32_3
  let v8 : BitVec 32 := Scalar.addi v5 v7
  let c256_i32_72 : BitVec 32 := 256#32
  let v95 : BitVec 32 := Scalar.muli v8 c256_i32_72
  let c0_i32_77 : BitVec 32 := 0#32
  ![v95.toNat, 0]
def k0_off3 (d0 : Dev nD) (c1_i32_8 : BitVec 32) (c0_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v17 : BitVec 32 := Scalar.addi v3 c1_i32_8
  let c4_i32_9 : BitVec 32 := 4#32
  let v18 : BitVec 32 := Scalar.remsi v17 c4_i32_9
  let c4_i32_10 : BitVec 32 := 4#32
  let v19 : BitVec 32 := Scalar.muli v18 c4_i32_10
  let c4_i32_0 : BitVec 32 := 4#32
  let v4 : BitVec 32 := Scalar.remsi v2 c4_i32_0
  let v20 : BitVec 32 := Scalar.addi v4 c0_i32
  let c4_i32_11 : BitVec 32 := 4#32
  let v21 : BitVec 32 := Scalar.remsi v20 c4_i32_11
  let v22 : BitVec 32 := Scalar.addi v19 v21
  let c256_i32_90 : BitVec 32 := 256#32
  let v113 : BitVec 32 := Scalar.muli v22 c256_i32_90
  let c0_i32_95 : BitVec 32 := 0#32
  ![v113.toNat, 0]
def k0_dev1 (d0 : Dev nD) : Nat :=
  let c0_i32_110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_106 : BitVec 32 := 1#32
  let v132 : BitVec 32 := Scalar.addi v2 c1_i32_106
  let c16_i32_107 : BitVec 32 := 16#32
  let v133 : BitVec 32 := Scalar.remsi v132 c16_i32_107
  let c1_i32_109 : BitVec 32 := 1#32
  let v134 : BitVec 32 := Scalar.muli v133 c1_i32_109
  let v135 : BitVec 32 := Scalar.addi c0_i32_110 v134
  v135.toNat
def k0_dev2 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_111 : BitVec 32 := 2#32
  let v136 : BitVec 32 := Scalar.addi v2 c2_i32_111
  let c16_i32_112 : BitVec 32 := 16#32
  let v137 : BitVec 32 := Scalar.remsi v136 c16_i32_112
  let c1_i32_114 : BitVec 32 := 1#32
  let v138 : BitVec 32 := Scalar.muli v137 c1_i32_114
  let v139 : BitVec 32 := Scalar.addi c0_i32_115 v138
  v139.toNat
def k0_dev3 (d0 : Dev nD) : Nat :=
  let c0_i32_120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_116 : BitVec 32 := 3#32
  let v140 : BitVec 32 := Scalar.addi v2 c3_i32_116
  let c16_i32_117 : BitVec 32 := 16#32
  let v141 : BitVec 32 := Scalar.remsi v140 c16_i32_117
  let c1_i32_119 : BitVec 32 := 1#32
  let v142 : BitVec 32 := Scalar.muli v141 c1_i32_119
  let v143 : BitVec 32 := Scalar.addi c0_i32_120 v142
  v143.toNat
def k0_dev4 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_121 : BitVec 32 := 4#32
  let v144 : BitVec 32 := Scalar.addi v2 c4_i32_121
  let c16_i32_122 : BitVec 32 := 16#32
  let v145 : BitVec 32 := Scalar.remsi v144 c16_i32_122
  let c1_i32_124 : BitVec 32 := 1#32
  let v146 : BitVec 32 := Scalar.muli v145 c1_i32_124
  let v147 : BitVec 32 := Scalar.addi c0_i32_125 v146
  v147.toNat
def k0_dev5 (d0 : Dev nD) : Nat :=
  let c0_i32_130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_126 : BitVec 32 := 5#32
  let v148 : BitVec 32 := Scalar.addi v2 c5_i32_126
  let c16_i32_127 : BitVec 32 := 16#32
  let v149 : BitVec 32 := Scalar.remsi v148 c16_i32_127
  let c1_i32_129 : BitVec 32 := 1#32
  let v150 : BitVec 32 := Scalar.muli v149 c1_i32_129
  let v151 : BitVec 32 := Scalar.addi c0_i32_130 v150
  v151.toNat
def k0_dev6 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_131 : BitVec 32 := 6#32
  let v152 : BitVec 32 := Scalar.addi v2 c6_i32_131
  let c16_i32_132 : BitVec 32 := 16#32
  let v153 : BitVec 32 := Scalar.remsi v152 c16_i32_132
  let c1_i32_134 : BitVec 32 := 1#32
  let v154 : BitVec 32 := Scalar.muli v153 c1_i32_134
  let v155 : BitVec 32 := Scalar.addi c0_i32_135 v154
  v155.toNat
def k0_dev7 (d0 : Dev nD) : Nat :=
  let c0_i32_139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v156 : BitVec 32 := Scalar.addi v2 c7_i32
  let c16_i32_136 : BitVec 32 := 16#32
  let v157 : BitVec 32 := Scalar.remsi v156 c16_i32_136
  let c1_i32_138 : BitVec 32 := 1#32
  let v158 : BitVec 32 := Scalar.muli v157 c1_i32_138
  let v159 : BitVec 32 := Scalar.addi c0_i32_139 v158
  v159.toNat
def k0_dev8 (d0 : Dev nD) : Nat :=
  let c0_i32_143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v160 : BitVec 32 := Scalar.addi v2 c8_i32
  let c16_i32_140 : BitVec 32 := 16#32
  let v161 : BitVec 32 := Scalar.remsi v160 c16_i32_140
  let c1_i32_142 : BitVec 32 := 1#32
  let v162 : BitVec 32 := Scalar.muli v161 c1_i32_142
  let v163 : BitVec 32 := Scalar.addi c0_i32_143 v162
  v163.toNat
def k0_dev9 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v164 : BitVec 32 := Scalar.addi v2 c9_i32
  let c16_i32_144 : BitVec 32 := 16#32
  let v165 : BitVec 32 := Scalar.remsi v164 c16_i32_144
  let c1_i32_146 : BitVec 32 := 1#32
  let v166 : BitVec 32 := Scalar.muli v165 c1_i32_146
  let v167 : BitVec 32 := Scalar.addi c0_i32_147 v166
  v167.toNat
def k0_dev10 (d0 : Dev nD) : Nat :=
  let c0_i32_151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v168 : BitVec 32 := Scalar.addi v2 c10_i32
  let c16_i32_148 : BitVec 32 := 16#32
  let v169 : BitVec 32 := Scalar.remsi v168 c16_i32_148
  let c1_i32_150 : BitVec 32 := 1#32
  let v170 : BitVec 32 := Scalar.muli v169 c1_i32_150
  let v171 : BitVec 32 := Scalar.addi c0_i32_151 v170
  v171.toNat
def k0_dev11 (d0 : Dev nD) : Nat :=
  let c0_i32_155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v172 : BitVec 32 := Scalar.addi v2 c11_i32
  let c16_i32_152 : BitVec 32 := 16#32
  let v173 : BitVec 32 := Scalar.remsi v172 c16_i32_152
  let c1_i32_154 : BitVec 32 := 1#32
  let v174 : BitVec 32 := Scalar.muli v173 c1_i32_154
  let v175 : BitVec 32 := Scalar.addi c0_i32_155 v174
  v175.toNat
def k0_dev12 (d0 : Dev nD) : Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v176 : BitVec 32 := Scalar.addi v2 c12_i32
  let c16_i32_156 : BitVec 32 := 16#32
  let v177 : BitVec 32 := Scalar.remsi v176 c16_i32_156
  let c1_i32_158 : BitVec 32 := 1#32
  let v178 : BitVec 32 := Scalar.muli v177 c1_i32_158
  let v179 : BitVec 32 := Scalar.addi c0_i32_159 v178
  v179.toNat
def k0_dev13 (d0 : Dev nD) : Nat :=
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v180 : BitVec 32 := Scalar.addi v2 c13_i32
  let c16_i32_160 : BitVec 32 := 16#32
  let v181 : BitVec 32 := Scalar.remsi v180 c16_i32_160
  let c1_i32_162 : BitVec 32 := 1#32
  let v182 : BitVec 32 := Scalar.muli v181 c1_i32_162
  let v183 : BitVec 32 := Scalar.addi c0_i32_163 v182
  v183.toNat
def k0_dev14 (d0 : Dev nD) : Nat :=
  let c0_i32_167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v184 : BitVec 32 := Scalar.addi v2 c14_i32
  let c16_i32_164 : BitVec 32 := 16#32
  let v185 : BitVec 32 := Scalar.remsi v184 c16_i32_164
  let c1_i32_166 : BitVec 32 := 1#32
  let v186 : BitVec 32 := Scalar.muli v185 c1_i32_166
  let v187 : BitVec 32 := Scalar.addi c0_i32_167 v186
  v187.toNat
def k0_dev15 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v188 : BitVec 32 := Scalar.addi v2 c15_i32
  let c16_i32_168 : BitVec 32 := 16#32
  let v189 : BitVec 32 := Scalar.remsi v188 c16_i32_168
  let c1_i32_170 : BitVec 32 := 1#32
  let v190 : BitVec 32 := Scalar.muli v189 c1_i32_170
  let v191 : BitVec 32 := Scalar.addi c0_i32_171 v190
  v191.toNat
def k0_off4 (d0 : Dev nD) (c2_i32_178 : BitVec 32) (c0_i32_176 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v200 : BitVec 32 := Scalar.addi v3 c2_i32_178
  let c4_i32_179 : BitVec 32 := 4#32
  let v201 : BitVec 32 := Scalar.remsi v200 c4_i32_179
  let c4_i32_180 : BitVec 32 := 4#32
  let v202 : BitVec 32 := Scalar.muli v201 c4_i32_180
  let c4_i32_0 : BitVec 32 := 4#32
  let v4 : BitVec 32 := Scalar.remsi v2 c4_i32_0
  let v198 : BitVec 32 := Scalar.addi v4 c0_i32_176
  let c4_i32_177 : BitVec 32 := 4#32
  let v199 : BitVec 32 := Scalar.remsi v198 c4_i32_177
  let v203 : BitVec 32 := Scalar.addi v202 v199
  let c256_i32_181 : BitVec 32 := 256#32
  let v204 : BitVec 32 := Scalar.muli v203 c256_i32_181
  let c0_i32_189 : BitVec 32 := 0#32
  ![v204.toNat, 0]
def k0_off4_at (r : Fin 15) : BitVec 32 × BitVec 32 :=
  if r.val < 7 then
    if r.val < 3 then
      if r.val < 1 then
        (2#32, 0#32)
      else
        if r.val < 2 then
          (2#32, 1#32)
        else
          (2#32, 2#32)
    else
      if r.val < 5 then
        if r.val < 4 then
          (2#32, 3#32)
        else
          (1#32, 0#32)
      else
        if r.val < 6 then
          (1#32, 1#32)
        else
          (1#32, 2#32)
  else
    if r.val < 11 then
      if r.val < 9 then
        if r.val < 8 then
          (1#32, 3#32)
        else
          (3#32, 0#32)
      else
        if r.val < 10 then
          (3#32, 1#32)
        else
          (3#32, 2#32)
    else
      if r.val < 13 then
        if r.val < 12 then
          (3#32, 3#32)
        else
          (0#32, 1#32)
      else
        if r.val < 14 then
          (0#32, 2#32)
        else
          (0#32, 3#32)
def k0_dev16 (d0 : Dev nD) : Nat :=
  let c0_i32_186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_178 : BitVec 32 := 2#32
  let v200 : BitVec 32 := Scalar.addi v3 c2_i32_178
  let c4_i32_179 : BitVec 32 := 4#32
  let v201 : BitVec 32 := Scalar.remsi v200 c4_i32_179
  let c4_i32_180 : BitVec 32 := 4#32
  let v202 : BitVec 32 := Scalar.muli v201 c4_i32_180
  let c4_i32_0 : BitVec 32 := 4#32
  let v4 : BitVec 32 := Scalar.remsi v2 c4_i32_0
  let c0_i32_176 : BitVec 32 := 0#32
  let v198 : BitVec 32 := Scalar.addi v4 c0_i32_176
  let c4_i32_177 : BitVec 32 := 4#32
  let v199 : BitVec 32 := Scalar.remsi v198 c4_i32_177
  let v203 : BitVec 32 := Scalar.addi v202 v199
  let c1_i32_185 : BitVec 32 := 1#32
  let v205 : BitVec 32 := Scalar.muli v203 c1_i32_185
  let v206 : BitVec 32 := Scalar.addi c0_i32_186 v205
  v206.toNat
def k0_dev17 (d0 : Dev nD) : Nat :=
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_192 : BitVec 32 := 2#32
  let v216 : BitVec 32 := Scalar.addi v3 c2_i32_192
  let c4_i32_193 : BitVec 32 := 4#32
  let v217 : BitVec 32 := Scalar.remsi v216 c4_i32_193
  let c4_i32_194 : BitVec 32 := 4#32
  let v218 : BitVec 32 := Scalar.muli v217 c4_i32_194
  let c4_i32_0 : BitVec 32 := 4#32
  let v4 : BitVec 32 := Scalar.remsi v2 c4_i32_0
  let c1_i32_190 : BitVec 32 := 1#32
  let v214 : BitVec 32 := Scalar.addi v4 c1_i32_190
  let c4_i32_191 : BitVec 32 := 4#32
  let v215 : BitVec 32 := Scalar.remsi v214 c4_i32_191
  let v219 : BitVec 32 := Scalar.addi v218 v215
  let c1_i32_199 : BitVec 32 := 1#32
  let v221 : BitVec 32 := Scalar.muli v219 c1_i32_199
  let v222 : BitVec 32 := Scalar.addi c0_i32_200 v221
  v222.toNat
def k0_dev18 (d0 : Dev nD) : Nat :=
  let c0_i32_214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_206 : BitVec 32 := 2#32
  let v232 : BitVec 32 := Scalar.addi v3 c2_i32_206
  let c4_i32_207 : BitVec 32 := 4#32
  let v233 : BitVec 32 := Scalar.remsi v232 c4_i32_207
  let c4_i32_208 : BitVec 32 := 4#32
  let v234 : BitVec 32 := Scalar.muli v233 c4_i32_208
  let c4_i32_0 : BitVec 32 := 4#32
  let v4 : BitVec 32 := Scalar.remsi v2 c4_i32_0
  let c2_i32_204 : BitVec 32 := 2#32
  let v230 : BitVec 32 := Scalar.addi v4 c2_i32_204
  let c4_i32_205 : BitVec 32 := 4#32
  let v231 : BitVec 32 := Scalar.remsi v230 c4_i32_205
  let v235 : BitVec 32 := Scalar.addi v234 v231
  let c1_i32_213 : BitVec 32 := 1#32
  let v237 : BitVec 32 := Scalar.muli v235 c1_i32_213
  let v238 : BitVec 32 := Scalar.addi c0_i32_214 v237
  v238.toNat
def k0_dev19 (d0 : Dev nD) : Nat :=
  let c0_i32_228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_220 : BitVec 32 := 2#32
  let v248 : BitVec 32 := Scalar.addi v3 c2_i32_220
  let c4_i32_221 : BitVec 32 := 4#32
  let v249 : BitVec 32 := Scalar.remsi v248 c4_i32_221
  let c4_i32_222 : BitVec 32 := 4#32
  let v250 : BitVec 32 := Scalar.muli v249 c4_i32_222
  let c4_i32_0 : BitVec 32 := 4#32
  let v4 : BitVec 32 := Scalar.remsi v2 c4_i32_0
  let c3_i32_218 : BitVec 32 := 3#32
  let v246 : BitVec 32 := Scalar.addi v4 c3_i32_218
  let c4_i32_219 : BitVec 32 := 4#32
  let v247 : BitVec 32 := Scalar.remsi v246 c4_i32_219
  let v251 : BitVec 32 := Scalar.addi v250 v247
  let c1_i32_227 : BitVec 32 := 1#32
  let v253 : BitVec 32 := Scalar.muli v251 c1_i32_227
  let v254 : BitVec 32 := Scalar.addi c0_i32_228 v253
  v254.toNat
def k0_dev20 (d0 : Dev nD) : Nat :=
  let c0_i32_242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_234 : BitVec 32 := 1#32
  let v264 : BitVec 32 := Scalar.addi v3 c1_i32_234
  let c4_i32_235 : BitVec 32 := 4#32
  let v265 : BitVec 32 := Scalar.remsi v264 c4_i32_235
  let c4_i32_236 : BitVec 32 := 4#32
  let v266 : BitVec 32 := Scalar.muli v265 c4_i32_236
  let c4_i32_0 : BitVec 32 := 4#32
  let v4 : BitVec 32 := Scalar.remsi v2 c4_i32_0
  let c0_i32_232 : BitVec 32 := 0#32
  let v262 : BitVec 32 := Scalar.addi v4 c0_i32_232
  let c4_i32_233 : BitVec 32 := 4#32
  let v263 : BitVec 32 := Scalar.remsi v262 c4_i32_233
  let v267 : BitVec 32 := Scalar.addi v266 v263
  let c1_i32_241 : BitVec 32 := 1#32
  let v269 : BitVec 32 := Scalar.muli v267 c1_i32_241
  let v270 : BitVec 32 := Scalar.addi c0_i32_242 v269
  v270.toNat
def k0_dev21 (d0 : Dev nD) : Nat :=
  let c0_i32_256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_248 : BitVec 32 := 1#32
  let v280 : BitVec 32 := Scalar.addi v3 c1_i32_248
  let c4_i32_249 : BitVec 32 := 4#32
  let v281 : BitVec 32 := Scalar.remsi v280 c4_i32_249
  let c4_i32_250 : BitVec 32 := 4#32
  let v282 : BitVec 32 := Scalar.muli v281 c4_i32_250
  let c4_i32_0 : BitVec 32 := 4#32
  let v4 : BitVec 32 := Scalar.remsi v2 c4_i32_0
  let c1_i32_246 : BitVec 32 := 1#32
  let v278 : BitVec 32 := Scalar.addi v4 c1_i32_246
  let c4_i32_247 : BitVec 32 := 4#32
  let v279 : BitVec 32 := Scalar.remsi v278 c4_i32_247
  let v283 : BitVec 32 := Scalar.addi v282 v279
  let c1_i32_255 : BitVec 32 := 1#32
  let v285 : BitVec 32 := Scalar.muli v283 c1_i32_255
  let v286 : BitVec 32 := Scalar.addi c0_i32_256 v285
  v286.toNat
def k0_dev22 (d0 : Dev nD) : Nat :=
  let c0_i32_270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_262 : BitVec 32 := 1#32
  let v296 : BitVec 32 := Scalar.addi v3 c1_i32_262
  let c4_i32_263 : BitVec 32 := 4#32
  let v297 : BitVec 32 := Scalar.remsi v296 c4_i32_263
  let c4_i32_264 : BitVec 32 := 4#32
  let v298 : BitVec 32 := Scalar.muli v297 c4_i32_264
  let c4_i32_0 : BitVec 32 := 4#32
  let v4 : BitVec 32 := Scalar.remsi v2 c4_i32_0
  let c2_i32_260 : BitVec 32 := 2#32
  let v294 : BitVec 32 := Scalar.addi v4 c2_i32_260
  let c4_i32_261 : BitVec 32 := 4#32
  let v295 : BitVec 32 := Scalar.remsi v294 c4_i32_261
  let v299 : BitVec 32 := Scalar.addi v298 v295
  let c1_i32_269 : BitVec 32 := 1#32
  let v301 : BitVec 32 := Scalar.muli v299 c1_i32_269
  let v302 : BitVec 32 := Scalar.addi c0_i32_270 v301
  v302.toNat
def k0_dev23 (d0 : Dev nD) : Nat :=
  let c0_i32_284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_276 : BitVec 32 := 1#32
  let v312 : BitVec 32 := Scalar.addi v3 c1_i32_276
  let c4_i32_277 : BitVec 32 := 4#32
  let v313 : BitVec 32 := Scalar.remsi v312 c4_i32_277
  let c4_i32_278 : BitVec 32 := 4#32
  let v314 : BitVec 32 := Scalar.muli v313 c4_i32_278
  let c4_i32_0 : BitVec 32 := 4#32
  let v4 : BitVec 32 := Scalar.remsi v2 c4_i32_0
  let c3_i32_274 : BitVec 32 := 3#32
  let v310 : BitVec 32 := Scalar.addi v4 c3_i32_274
  let c4_i32_275 : BitVec 32 := 4#32
  let v311 : BitVec 32 := Scalar.remsi v310 c4_i32_275
  let v315 : BitVec 32 := Scalar.addi v314 v311
  let c1_i32_283 : BitVec 32 := 1#32
  let v317 : BitVec 32 := Scalar.muli v315 c1_i32_283
  let v318 : BitVec 32 := Scalar.addi c0_i32_284 v317
  v318.toNat
def k0_dev24 (d0 : Dev nD) : Nat :=
  let c0_i32_298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_290 : BitVec 32 := 3#32
  let v328 : BitVec 32 := Scalar.addi v3 c3_i32_290
  let c4_i32_291 : BitVec 32 := 4#32
  let v329 : BitVec 32 := Scalar.remsi v328 c4_i32_291
  let c4_i32_292 : BitVec 32 := 4#32
  let v330 : BitVec 32 := Scalar.muli v329 c4_i32_292
  let c4_i32_0 : BitVec 32 := 4#32
  let v4 : BitVec 32 := Scalar.remsi v2 c4_i32_0
  let c0_i32_288 : BitVec 32 := 0#32
  let v326 : BitVec 32 := Scalar.addi v4 c0_i32_288
  let c4_i32_289 : BitVec 32 := 4#32
  let v327 : BitVec 32 := Scalar.remsi v326 c4_i32_289
  let v331 : BitVec 32 := Scalar.addi v330 v327
  let c1_i32_297 : BitVec 32 := 1#32
  let v333 : BitVec 32 := Scalar.muli v331 c1_i32_297
  let v334 : BitVec 32 := Scalar.addi c0_i32_298 v333
  v334.toNat
def k0_dev25 (d0 : Dev nD) : Nat :=
  let c0_i32_312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_304 : BitVec 32 := 3#32
  let v344 : BitVec 32 := Scalar.addi v3 c3_i32_304
  let c4_i32_305 : BitVec 32 := 4#32
  let v345 : BitVec 32 := Scalar.remsi v344 c4_i32_305
  let c4_i32_306 : BitVec 32 := 4#32
  let v346 : BitVec 32 := Scalar.muli v345 c4_i32_306
  let c4_i32_0 : BitVec 32 := 4#32
  let v4 : BitVec 32 := Scalar.remsi v2 c4_i32_0
  let c1_i32_302 : BitVec 32 := 1#32
  let v342 : BitVec 32 := Scalar.addi v4 c1_i32_302
  let c4_i32_303 : BitVec 32 := 4#32
  let v343 : BitVec 32 := Scalar.remsi v342 c4_i32_303
  let v347 : BitVec 32 := Scalar.addi v346 v343
  let c1_i32_311 : BitVec 32 := 1#32
  let v349 : BitVec 32 := Scalar.muli v347 c1_i32_311
  let v350 : BitVec 32 := Scalar.addi c0_i32_312 v349
  v350.toNat
def k0_dev26 (d0 : Dev nD) : Nat :=
  let c0_i32_326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_318 : BitVec 32 := 3#32
  let v360 : BitVec 32 := Scalar.addi v3 c3_i32_318
  let c4_i32_319 : BitVec 32 := 4#32
  let v361 : BitVec 32 := Scalar.remsi v360 c4_i32_319
  let c4_i32_320 : BitVec 32 := 4#32
  let v362 : BitVec 32 := Scalar.muli v361 c4_i32_320
  let c4_i32_0 : BitVec 32 := 4#32
  let v4 : BitVec 32 := Scalar.remsi v2 c4_i32_0
  let c2_i32_316 : BitVec 32 := 2#32
  let v358 : BitVec 32 := Scalar.addi v4 c2_i32_316
  let c4_i32_317 : BitVec 32 := 4#32
  let v359 : BitVec 32 := Scalar.remsi v358 c4_i32_317
  let v363 : BitVec 32 := Scalar.addi v362 v359
  let c1_i32_325 : BitVec 32 := 1#32
  let v365 : BitVec 32 := Scalar.muli v363 c1_i32_325
  let v366 : BitVec 32 := Scalar.addi c0_i32_326 v365
  v366.toNat
def k0_dev27 (d0 : Dev nD) : Nat :=
  let c0_i32_340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_332 : BitVec 32 := 3#32
  let v376 : BitVec 32 := Scalar.addi v3 c3_i32_332
  let c4_i32_333 : BitVec 32 := 4#32
  let v377 : BitVec 32 := Scalar.remsi v376 c4_i32_333
  let c4_i32_334 : BitVec 32 := 4#32
  let v378 : BitVec 32 := Scalar.muli v377 c4_i32_334
  let c4_i32_0 : BitVec 32 := 4#32
  let v4 : BitVec 32 := Scalar.remsi v2 c4_i32_0
  let c3_i32_330 : BitVec 32 := 3#32
  let v374 : BitVec 32 := Scalar.addi v4 c3_i32_330
  let c4_i32_331 : BitVec 32 := 4#32
  let v375 : BitVec 32 := Scalar.remsi v374 c4_i32_331
  let v379 : BitVec 32 := Scalar.addi v378 v375
  let c1_i32_339 : BitVec 32 := 1#32
  let v381 : BitVec 32 := Scalar.muli v379 c1_i32_339
  let v382 : BitVec 32 := Scalar.addi c0_i32_340 v381
  v382.toNat
def k0_dev28 (d0 : Dev nD) : Nat :=
  let c0_i32_354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_346 : BitVec 32 := 0#32
  let v392 : BitVec 32 := Scalar.addi v3 c0_i32_346
  let c4_i32_347 : BitVec 32 := 4#32
  let v393 : BitVec 32 := Scalar.remsi v392 c4_i32_347
  let c4_i32_348 : BitVec 32 := 4#32
  let v394 : BitVec 32 := Scalar.muli v393 c4_i32_348
  let c4_i32_0 : BitVec 32 := 4#32
  let v4 : BitVec 32 := Scalar.remsi v2 c4_i32_0
  let c1_i32_344 : BitVec 32 := 1#32
  let v390 : BitVec 32 := Scalar.addi v4 c1_i32_344
  let c4_i32_345 : BitVec 32 := 4#32
  let v391 : BitVec 32 := Scalar.remsi v390 c4_i32_345
  let v395 : BitVec 32 := Scalar.addi v394 v391
  let c1_i32_353 : BitVec 32 := 1#32
  let v397 : BitVec 32 := Scalar.muli v395 c1_i32_353
  let v398 : BitVec 32 := Scalar.addi c0_i32_354 v397
  v398.toNat
def k0_dev29 (d0 : Dev nD) : Nat :=
  let c0_i32_368 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_360 : BitVec 32 := 0#32
  let v408 : BitVec 32 := Scalar.addi v3 c0_i32_360
  let c4_i32_361 : BitVec 32 := 4#32
  let v409 : BitVec 32 := Scalar.remsi v408 c4_i32_361
  let c4_i32_362 : BitVec 32 := 4#32
  let v410 : BitVec 32 := Scalar.muli v409 c4_i32_362
  let c4_i32_0 : BitVec 32 := 4#32
  let v4 : BitVec 32 := Scalar.remsi v2 c4_i32_0
  let c2_i32_358 : BitVec 32 := 2#32
  let v406 : BitVec 32 := Scalar.addi v4 c2_i32_358
  let c4_i32_359 : BitVec 32 := 4#32
  let v407 : BitVec 32 := Scalar.remsi v406 c4_i32_359
  let v411 : BitVec 32 := Scalar.addi v410 v407
  let c1_i32_367 : BitVec 32 := 1#32
  let v413 : BitVec 32 := Scalar.muli v411 c1_i32_367
  let v414 : BitVec 32 := Scalar.addi c0_i32_368 v413
  v414.toNat
def k0_dev30 (d0 : Dev nD) : Nat :=
  let c0_i32_382 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_374 : BitVec 32 := 0#32
  let v424 : BitVec 32 := Scalar.addi v3 c0_i32_374
  let c4_i32_375 : BitVec 32 := 4#32
  let v425 : BitVec 32 := Scalar.remsi v424 c4_i32_375
  let c4_i32_376 : BitVec 32 := 4#32
  let v426 : BitVec 32 := Scalar.muli v425 c4_i32_376
  let c4_i32_0 : BitVec 32 := 4#32
  let v4 : BitVec 32 := Scalar.remsi v2 c4_i32_0
  let c3_i32_372 : BitVec 32 := 3#32
  let v422 : BitVec 32 := Scalar.addi v4 c3_i32_372
  let c4_i32_373 : BitVec 32 := 4#32
  let v423 : BitVec 32 := Scalar.remsi v422 c4_i32_373
  let v427 : BitVec 32 := Scalar.addi v426 v423
  let c1_i32_381 : BitVec 32 := 1#32
  let v429 : BitVec 32 := Scalar.muli v427 c1_i32_381
  let v430 : BitVec 32 := Scalar.addi c0_i32_382 v429
  v430.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_386 : BitVec 32 := 256#32
  let v438 : BitVec 32 := Scalar.muli v2 c256_i32_386
  let v439 : Index := Scalar.indexCast v438
  let c0_387 : Index := 0#32
  ![v439.toNat, 0]
def k0_dev31 (d0 : Dev nD) : Nat :=
  let c0_i32_921_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_917_r0 : BitVec 32 := 1#32
  let v911_r0 : BitVec 32 := Scalar.addi v2 c1_i32_917_r0
  let c16_i32_918_r0 : BitVec 32 := 16#32
  let v912_r0 : BitVec 32 := Scalar.remsi v911_r0 c16_i32_918_r0
  let c1_i32_920_r0 : BitVec 32 := 1#32
  let v913_r0 : BitVec 32 := Scalar.muli v912_r0 c1_i32_920_r0
  let v914_r0 : BitVec 32 := Scalar.addi c0_i32_921_r0 v913_r0
  v914_r0.toNat
def k0_dev32 (d0 : Dev nD) : Nat :=
  let c0_i32_926_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_922_r0 : BitVec 32 := 2#32
  let v915_r0 : BitVec 32 := Scalar.addi v2 c2_i32_922_r0
  let c16_i32_923_r0 : BitVec 32 := 16#32
  let v916_r0 : BitVec 32 := Scalar.remsi v915_r0 c16_i32_923_r0
  let c1_i32_925_r0 : BitVec 32 := 1#32
  let v917_r0 : BitVec 32 := Scalar.muli v916_r0 c1_i32_925_r0
  let v918_r0 : BitVec 32 := Scalar.addi c0_i32_926_r0 v917_r0
  v918_r0.toNat
def k0_dev33 (d0 : Dev nD) : Nat :=
  let c0_i32_931_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_927_r0 : BitVec 32 := 3#32
  let v919_r0 : BitVec 32 := Scalar.addi v2 c3_i32_927_r0
  let c16_i32_928_r0 : BitVec 32 := 16#32
  let v920_r0 : BitVec 32 := Scalar.remsi v919_r0 c16_i32_928_r0
  let c1_i32_930_r0 : BitVec 32 := 1#32
  let v921_r0 : BitVec 32 := Scalar.muli v920_r0 c1_i32_930_r0
  let v922_r0 : BitVec 32 := Scalar.addi c0_i32_931_r0 v921_r0
  v922_r0.toNat
def k0_dev34 (d0 : Dev nD) : Nat :=
  let c0_i32_936_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_932_r0 : BitVec 32 := 4#32
  let v923_r0 : BitVec 32 := Scalar.addi v2 c4_i32_932_r0
  let c16_i32_933_r0 : BitVec 32 := 16#32
  let v924_r0 : BitVec 32 := Scalar.remsi v923_r0 c16_i32_933_r0
  let c1_i32_935_r0 : BitVec 32 := 1#32
  let v925_r0 : BitVec 32 := Scalar.muli v924_r0 c1_i32_935_r0
  let v926_r0 : BitVec 32 := Scalar.addi c0_i32_936_r0 v925_r0
  v926_r0.toNat
def k0_dev35 (d0 : Dev nD) : Nat :=
  let c0_i32_941_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_937_r0 : BitVec 32 := 5#32
  let v927_r0 : BitVec 32 := Scalar.addi v2 c5_i32_937_r0
  let c16_i32_938_r0 : BitVec 32 := 16#32
  let v928_r0 : BitVec 32 := Scalar.remsi v927_r0 c16_i32_938_r0
  let c1_i32_940_r0 : BitVec 32 := 1#32
  let v929_r0 : BitVec 32 := Scalar.muli v928_r0 c1_i32_940_r0
  let v930_r0 : BitVec 32 := Scalar.addi c0_i32_941_r0 v929_r0
  v930_r0.toNat
def k0_dev36 (d0 : Dev nD) : Nat :=
  let c0_i32_946_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_942_r0 : BitVec 32 := 6#32
  let v931_r0 : BitVec 32 := Scalar.addi v2 c6_i32_942_r0
  let c16_i32_943_r0 : BitVec 32 := 16#32
  let v932_r0 : BitVec 32 := Scalar.remsi v931_r0 c16_i32_943_r0
  let c1_i32_945_r0 : BitVec 32 := 1#32
  let v933_r0 : BitVec 32 := Scalar.muli v932_r0 c1_i32_945_r0
  let v934_r0 : BitVec 32 := Scalar.addi c0_i32_946_r0 v933_r0
  v934_r0.toNat
def k0_dev37 (d0 : Dev nD) : Nat :=
  let c0_i32_951_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_947_r0 : BitVec 32 := 7#32
  let v935_r0 : BitVec 32 := Scalar.addi v2 c7_i32_947_r0
  let c16_i32_948_r0 : BitVec 32 := 16#32
  let v936_r0 : BitVec 32 := Scalar.remsi v935_r0 c16_i32_948_r0
  let c1_i32_950_r0 : BitVec 32 := 1#32
  let v937_r0 : BitVec 32 := Scalar.muli v936_r0 c1_i32_950_r0
  let v938_r0 : BitVec 32 := Scalar.addi c0_i32_951_r0 v937_r0
  v938_r0.toNat
def k0_dev38 (d0 : Dev nD) : Nat :=
  let c0_i32_956_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_952_r0 : BitVec 32 := 8#32
  let v939_r0 : BitVec 32 := Scalar.addi v2 c8_i32_952_r0
  let c16_i32_953_r0 : BitVec 32 := 16#32
  let v940_r0 : BitVec 32 := Scalar.remsi v939_r0 c16_i32_953_r0
  let c1_i32_955_r0 : BitVec 32 := 1#32
  let v941_r0 : BitVec 32 := Scalar.muli v940_r0 c1_i32_955_r0
  let v942_r0 : BitVec 32 := Scalar.addi c0_i32_956_r0 v941_r0
  v942_r0.toNat
def k0_dev39 (d0 : Dev nD) : Nat :=
  let c0_i32_961_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_957_r0 : BitVec 32 := 9#32
  let v943_r0 : BitVec 32 := Scalar.addi v2 c9_i32_957_r0
  let c16_i32_958_r0 : BitVec 32 := 16#32
  let v944_r0 : BitVec 32 := Scalar.remsi v943_r0 c16_i32_958_r0
  let c1_i32_960_r0 : BitVec 32 := 1#32
  let v945_r0 : BitVec 32 := Scalar.muli v944_r0 c1_i32_960_r0
  let v946_r0 : BitVec 32 := Scalar.addi c0_i32_961_r0 v945_r0
  v946_r0.toNat
def k0_dev40 (d0 : Dev nD) : Nat :=
  let c0_i32_966_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_962_r0 : BitVec 32 := 10#32
  let v947_r0 : BitVec 32 := Scalar.addi v2 c10_i32_962_r0
  let c16_i32_963_r0 : BitVec 32 := 16#32
  let v948_r0 : BitVec 32 := Scalar.remsi v947_r0 c16_i32_963_r0
  let c1_i32_965_r0 : BitVec 32 := 1#32
  let v949_r0 : BitVec 32 := Scalar.muli v948_r0 c1_i32_965_r0
  let v950_r0 : BitVec 32 := Scalar.addi c0_i32_966_r0 v949_r0
  v950_r0.toNat
def k0_dev41 (d0 : Dev nD) : Nat :=
  let c0_i32_971_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_967_r0 : BitVec 32 := 11#32
  let v951_r0 : BitVec 32 := Scalar.addi v2 c11_i32_967_r0
  let c16_i32_968_r0 : BitVec 32 := 16#32
  let v952_r0 : BitVec 32 := Scalar.remsi v951_r0 c16_i32_968_r0
  let c1_i32_970_r0 : BitVec 32 := 1#32
  let v953_r0 : BitVec 32 := Scalar.muli v952_r0 c1_i32_970_r0
  let v954_r0 : BitVec 32 := Scalar.addi c0_i32_971_r0 v953_r0
  v954_r0.toNat
def k0_dev42 (d0 : Dev nD) : Nat :=
  let c0_i32_976_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_972_r0 : BitVec 32 := 12#32
  let v955_r0 : BitVec 32 := Scalar.addi v2 c12_i32_972_r0
  let c16_i32_973_r0 : BitVec 32 := 16#32
  let v956_r0 : BitVec 32 := Scalar.remsi v955_r0 c16_i32_973_r0
  let c1_i32_975_r0 : BitVec 32 := 1#32
  let v957_r0 : BitVec 32 := Scalar.muli v956_r0 c1_i32_975_r0
  let v958_r0 : BitVec 32 := Scalar.addi c0_i32_976_r0 v957_r0
  v958_r0.toNat
def k0_dev43 (d0 : Dev nD) : Nat :=
  let c0_i32_981_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_977_r0 : BitVec 32 := 13#32
  let v959_r0 : BitVec 32 := Scalar.addi v2 c13_i32_977_r0
  let c16_i32_978_r0 : BitVec 32 := 16#32
  let v960_r0 : BitVec 32 := Scalar.remsi v959_r0 c16_i32_978_r0
  let c1_i32_980_r0 : BitVec 32 := 1#32
  let v961_r0 : BitVec 32 := Scalar.muli v960_r0 c1_i32_980_r0
  let v962_r0 : BitVec 32 := Scalar.addi c0_i32_981_r0 v961_r0
  v962_r0.toNat
def k0_dev44 (d0 : Dev nD) : Nat :=
  let c0_i32_986_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_982_r0 : BitVec 32 := 14#32
  let v963_r0 : BitVec 32 := Scalar.addi v2 c14_i32_982_r0
  let c16_i32_983_r0 : BitVec 32 := 16#32
  let v964_r0 : BitVec 32 := Scalar.remsi v963_r0 c16_i32_983_r0
  let c1_i32_985_r0 : BitVec 32 := 1#32
  let v965_r0 : BitVec 32 := Scalar.muli v964_r0 c1_i32_985_r0
  let v966_r0 : BitVec 32 := Scalar.addi c0_i32_986_r0 v965_r0
  v966_r0.toNat
def k0_dev45 (d0 : Dev nD) : Nat :=
  let c0_i32_991_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_987_r0 : BitVec 32 := 15#32
  let v967_r0 : BitVec 32 := Scalar.addi v2 c15_i32_987_r0
  let c16_i32_988_r0 : BitVec 32 := 16#32
  let v968_r0 : BitVec 32 := Scalar.remsi v967_r0 c16_i32_988_r0
  let c1_i32_990_r0 : BitVec 32 := 1#32
  let v969_r0 : BitVec 32 := Scalar.muli v968_r0 c1_i32_990_r0
  let v970_r0 : BitVec 32 := Scalar.addi c0_i32_991_r0 v969_r0
  v970_r0.toNat
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Places.lean ====
/-
# Where things are: the sixteen devices, the blocks they trade, and the semaphores

Device `c` is at row `c / 4`, column `c % 4` of a four by four grid with wrap-around. Index `s` names the device
`src c s` at row distance `s / 4` and column distance `s % 4` from `c`: `c` keeps, in slot `s` of its landing
buffer, the block of the left operand that comes from `src c s`, and multiplies by the row block of the right
operand of that device. The device that sees `c` at index `s` is seen by `c` at index `neg s`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI

/-! ## The grid of devices -/

/-- The device at row distance `s / 4` and column distance `s % 4` from `c`. -/
def src (c : Dev nD) (s : Fin 16) : Dev nD :=
  ⟨4 * ((c.val / 4 + s.val / 4) % 4) + (c.val % 4 + s.val % 4) % 4, by show _ < 16; omega⟩

/-- The index at which `src c s` sees `c`. -/
def neg (s : Fin 16) : Fin 16 := ⟨4 * ((4 - s.val / 4) % 4) + (4 - s.val % 4) % 4, by omega⟩

/-- The index at which `c` sees `t`. -/
def idx (c t : Dev nD) : Fin 16 :=
  ⟨4 * ((t.val / 4 + 4 - c.val / 4) % 4) + (t.val % 4 + 4 - c.val % 4) % 4, by omega⟩

theorem src_neg : ∀ (c : Dev nD) (s : Fin 16), src (src c s) (neg s) = c := by decide +kernel
theorem neg_neg : ∀ s : Fin 16, neg (neg s) = s := by decide +kernel
theorem src_idx : ∀ c t : Dev nD, src c (idx c t) = t := by decide +kernel
theorem idx_src : ∀ (c : Dev nD) (s : Fin 16), idx c (src c s) = s := by decide +kernel
theorem src_zero : ∀ c : Dev nD, src c 0 = c := by decide +kernel
theorem idx_comm : ∀ c t : Dev nD, idx c t = neg (idx t c) := by decide +kernel
theorem neg_ne_zero : ∀ s : Fin 16, s ≠ 0 → neg s ≠ 0 := by decide +kernel

/-- Seen from `c`, every device is at exactly one index. -/
def around (c : Dev nD) : Fin 16 ≃ Dev nD := ⟨src c, idx c, idx_src c, src_idx c⟩

/-- The device `d + 1` further on in the numbering: the one the `d`-th signal of a handshake goes to. -/
def peer (c : Dev nD) (d : Fin 15) : Dev nD := ⟨(c.val + (d.val + 1)) % 16, Nat.mod_lt _ (by decide)⟩

theorem peer_ne_idx : ∀ (c : Dev nD) (d : Fin 15), idx c (peer c d) ≠ 0 := by decide +kernel

/-- The order in which the fifteen blocks are sent: the index of the target. -/
def ord : Fin 15 → Fin 16 := ![8, 9, 10, 11, 4, 5, 6, 7, 12, 13, 14, 15, 1, 2, 3]

theorem ord_ne_zero : ∀ j : Fin 15, ord j ≠ 0 := by decide +kernel

/-! ## The sixteen indices as a first one and fifteen others, in two orders -/

/-- The index of a handshake's `d`-th partner, for `d = 0 … 14`. -/
theorem peer_cover (c : Dev nD) : Finset.univ.image (fun d => idx c (peer c d)) = Finset.univ.erase (0 : Fin 16) := by
  revert c; decide +kernel
theorem peer_inj : ∀ (c : Dev nD) (d d' : Fin 15), idx c (peer c d) = idx c (peer c d') → d = d' := by decide +kernel
theorem ord_cover : Finset.univ.image ord = Finset.univ.erase (0 : Fin 16) := by decide +kernel
theorem ord_inj : Function.Injective ord := by decide +kernel
theorem neg_cover : (Finset.univ.erase (0 : Fin 16)).image neg = Finset.univ.erase (0 : Fin 16) := by decide +kernel

/-! ## The buffers, their row blocks and slots -/

abbrev xM : Memref sig .tc .vmem S4096x256 .f32 := Memref.whole cc0_stg0_0
abbrev wM : Memref sig .tc .hbm S4096x2048 .f32 := Memref.whole main_arg1
abbrev oM : Memref sig .tc .vmem S256x2048 .f32 := Memref.whole cc0_stg1_0
abbrev bM : Memref sig .tc .vmem S4096x256 .bf16 := Memref.whole cc0_scratch0
abbrev gM : Memref sig .tc .vmem S16x256x256 .bf16 := Memref.whole cc0_scratch1
abbrev sM : Memref sig .tc .vmem S8x256x2048 .f32 := Memref.whole cc0_scratch2

/-- The first row of row block `d`. -/
def rowAt (d : Dev nD) : Fin 2 → ℕ := ![256 * d.val, 0]

theorem inb_bRow (d : Dev nD) : ∀ a, rowAt d a + S256x256.size a ≤ S4096x256.size a := by revert d; decide +kernel
theorem inb_wRow (d : Dev nD) : ∀ a, rowAt d a + S256x2048.size a ≤ S4096x2048.size a := by revert d; decide +kernel
theorem inb_gSlot (s : Fin 16) : ∀ a, (![s.val, 0, 0] : Fin 3 → ℕ) a + S1x256x256.size a ≤ S16x256x256.size a := by
  revert s; decide +kernel
theorem inb_sSlot (k : Fin 8) : ∀ a, (![k.val, 0, 0] : Fin 3 → ℕ) a + S1x256x2048.size a ≤ S8x256x2048.size a := by
  revert k; decide +kernel

abbrev bRect (d : Dev nD) : Rect S4096x256 := Rect.unit (s := S4096x256) (rowAt d) S256x256.size (inb_bRow d)
abbrev wRect (d : Dev nD) : Rect S4096x2048 := Rect.unit (s := S4096x2048) (rowAt d) S256x2048.size (inb_wRow d)
abbrev gRect (s : Fin 16) : Rect S16x256x256 := Rect.unit (s := S16x256x256) ![s.val, 0, 0] S1x256x256.size (inb_gSlot s)
abbrev sRect (k : Fin 8) : Rect S8x256x2048 := Rect.unit (s := S8x256x2048) ![k.val, 0, 0] S1x256x2048.size (inb_sSlot k)

/-- Row block `d` of the narrowed left operand. -/
abbrev bRow (d : Dev nD) : Memref sig .tc .vmem S256x256 .bf16 := bM.slice (bRect d) (fun _ => rfl)
/-- Row block `d` of the right operand. -/
abbrev wRow (d : Dev nD) : Memref sig .tc .hbm S256x2048 .f32 := wM.slice (wRect d) (fun _ => rfl)
/-- Slot `s` of the landing buffer. -/
abbrev gSlot (s : Fin 16) : Memref sig .tc .vmem S256x256 .bf16 :=
  (gM.slice (gRect s) (fun _ => rfl)).squeeze S256x256 squeezes_S1x256x256_S256x256
/-- Slot `k` of the buffer the right operand is streamed through. -/
abbrev sSlot (k : Fin 8) : Memref sig .tc .vmem S256x2048 .f32 :=
  (sM.slice (sRect k) (fun _ => rfl)).squeeze S256x2048 squeezes_S1x256x2048_S256x2048

/-- The elements of these blocks and slots, as sets of indices of the whole buffers. -/
abbrev bSet (d : Dev nD) : Finset (cc0_scratch0 : Ref sig .tc).ty.shape.Idx := (bRow d).view.set
abbrev wSet (d : Dev nD) : Finset (main_arg1 : Ref sig .tc).ty.shape.Idx := (wRow d).view.set
abbrev gSet (s : Fin 16) : Finset (cc0_scratch1 : Ref sig .tc).ty.shape.Idx := (gSlot s).view.set
abbrev sSet (k : Fin 8) : Finset (cc0_scratch2 : Ref sig .tc).ty.shape.Idx := (sSlot k).view.set

theorem bRow_set (d : Dev nD) : bSet d = (bRect d).set := View.set_slice_whole _ _
theorem wRow_set (d : Dev nD) : wSet d = (wRect d).set := View.set_slice_whole _ _

theorem bRow_disj (d d' : Dev nD) (h : d ≠ d') : Disjoint (bSet d) (bSet d') := by
  rw [bRow_set, bRow_set]
  refine Rect.unit_disjoint (0 : Fin 2) ?_
  have h' : d.val ≠ d'.val := fun e => h (Fin.ext e)
  show 256 * d.val + 256 ≤ 256 * d'.val ∨ 256 * d'.val + 256 ≤ 256 * d.val
  omega

theorem wRow_disj (d d' : Dev nD) (h : d ≠ d') : Disjoint (wSet d) (wSet d') := by
  rw [wRow_set, wRow_set]
  refine Rect.unit_disjoint (0 : Fin 2) ?_
  have h' : d.val ≠ d'.val := fun e => h (Fin.ext e)
  show 256 * d.val + 256 ≤ 256 * d'.val ∨ 256 * d'.val + 256 ≤ 256 * d.val
  omega

theorem gSlot_set (s : Fin 16) : gSet s = (gRect s).set := by
  show (((View.whole cc0_scratch1).slice (gRect s)).reshape _ _).set = _
  rw [View.set_reshape, View.set_slice_whole]

theorem sSlot_set (k : Fin 8) : sSet k = (sRect k).set := by
  show (((View.whole cc0_scratch2).slice (sRect k)).reshape _ _).set = _
  rw [View.set_reshape, View.set_slice_whole]

theorem gSlot_disj (s s' : Fin 16) (h : s ≠ s') : Disjoint (gSet s) (gSet s') := by
  rw [gSlot_set, gSlot_set]
  refine Rect.unit_disjoint (0 : Fin 3) ?_
  have h' : s.val ≠ s'.val := fun e => h (Fin.ext e)
  show s.val + 1 ≤ s'.val ∨ s'.val + 1 ≤ s.val
  omega

theorem sSlot_disj (k k' : Fin 8) (h : k ≠ k') : Disjoint (sSet k) (sSet k') := by
  rw [sSlot_set, sSlot_set]
  refine Rect.unit_disjoint (0 : Fin 3) ?_
  have h' : k.val ≠ k'.val := fun e => h (Fin.ext e)
  show k.val + 1 ≤ k'.val ∨ k'.val + 1 ≤ k.val
  omega

theorem bRow_cover : (Finset.univ : Finset (Dev nD)).biUnion bSet = Finset.univ := by
  ext i
  simp only [Finset.mem_biUnion, Finset.mem_univ, true_and, iff_true]
  have h0 : (i (0 : Fin 2) : ℕ) < 4096 := (i (0 : Fin 2)).isLt
  refine ⟨⟨(i (0 : Fin 2) : ℕ) / 256, by show _ < 16; omega⟩, ?_⟩
  rw [bRow_set, Rect.mem_set_unit]
  intro a
  match a with
  | 0 => show 256 * ((i (0 : Fin 2) : ℕ) / 256) ≤ _ ∧ _ < 256 * ((i (0 : Fin 2) : ℕ) / 256) + 256; omega
  | 1 => exact ⟨Nat.zero_le _, by show _ < 0 + 256; have : (i (1 : Fin 2) : ℕ) < 256 := (i (1 : Fin 2)).isLt; omega⟩

theorem wRow_cover : (Finset.univ : Finset (Dev nD)).biUnion wSet = Finset.univ := by
  ext i
  simp only [Finset.mem_biUnion, Finset.mem_univ, true_and, iff_true]
  have h0 : (i (0 : Fin 2) : ℕ) < 4096 := (i (0 : Fin 2)).isLt
  refine ⟨⟨(i (0 : Fin 2) : ℕ) / 256, by show _ < 16; omega⟩, ?_⟩
  rw [wRow_set, Rect.mem_set_unit]
  intro a
  match a with
  | 0 => show 256 * ((i (0 : Fin 2) : ℕ) / 256) ≤ _ ∧ _ < 256 * ((i (0 : Fin 2) : ℕ) / 256) + 256; omega
  | 1 => exact ⟨Nat.zero_le _, by show _ < 0 + 2048; have : (i (1 : Fin 2) : ℕ) < 2048 := (i (1 : Fin 2)).isLt; omega⟩

theorem gSlot_cover : (Finset.univ : Finset (Fin 16)).biUnion gSet = Finset.univ := by
  ext i
  simp only [Finset.mem_biUnion, Finset.mem_univ, true_and, iff_true]
  refine ⟨⟨i (0 : Fin 3), (i (0 : Fin 3)).isLt⟩, ?_⟩
  rw [gSlot_set, Rect.mem_set_unit]
  intro a
  match a with
  | 0 => exact ⟨le_refl _, Nat.lt_succ_self _⟩
  | 1 => exact ⟨Nat.zero_le _, by show _ < 0 + 256; have : (i (1 : Fin 3) : ℕ) < 256 := (i (1 : Fin 3)).isLt; omega⟩
  | 2 => exact ⟨Nat.zero_le _, by show _ < 0 + 256; have : (i (2 : Fin 3) : ℕ) < 256 := (i (2 : Fin 3)).isLt; omega⟩

theorem sSlot_cover : (Finset.univ : Finset (Fin 8)).biUnion sSet = Finset.univ := by
  ext i
  simp only [Finset.mem_biUnion, Finset.mem_univ, true_and, iff_true]
  refine ⟨⟨i (0 : Fin 3), (i (0 : Fin 3)).isLt⟩, ?_⟩
  rw [sSlot_set, Rect.mem_set_unit]
  intro a
  match a with
  | 0 => exact ⟨le_refl _, Nat.lt_succ_self _⟩
  | 1 => exact ⟨Nat.zero_le _, by show _ < 0 + 256; have : (i (1 : Fin 3) : ℕ) < 256 := (i (1 : Fin 3)).isLt; omega⟩
  | 2 => exact ⟨Nat.zero_le _, by show _ < 0 + 2048; have : (i (2 : Fin 3) : ℕ) < 2048 := (i (2 : Fin 3)).isLt; omega⟩

/-! ## The offsets the program computes -/

theorem off1_row : ∀ c : Dev nD, k0_off1 c = rowAt (src c 0) := by decide +kernel
theorem off2_row : ∀ (c : Dev nD) (r : Fin 3), k0_off2 c (BitVec.ofNat 32 (1 + r.val)) = rowAt (src c ⟨1 + r.val, by omega⟩) := by
  decide +kernel
theorem off3_row : ∀ (c : Dev nD) (r₁ : Fin 3) (r₂ : Fin 4),
    k0_off3 c (BitVec.ofNat 32 (1 + r₁.val)) (BitVec.ofNat 32 r₂.val) = rowAt (src c ⟨4 * (1 + r₁.val) + r₂.val, by omega⟩) := by
  decide +kernel
theorem off5_row : ∀ c : Dev nD, k0_off5 c = rowAt c := by decide +kernel

/-! ## The semaphores -/

/-- The handshake at entry, on the runtime's barrier semaphore, and the one at exit, on the launch's own. -/
abbrev barS : Sem sig := (SemArray.scalar (sig.barrier 0 rfl) : Sems sig S_).sem
abbrev extS : Sem sig := (cc0_scoped0 : Sems sig S_).sem
/-- The completion semaphores: of slot `k` of the stream, of the send into slot `s`, of the arrival in slot `s`. -/
abbrev wS (k : Fin 8) : DmaSem sig := ⟨2 + k.val, by show _ < 42; omega⟩
abbrev sendS (s : Fin 16) : DmaSem sig := ⟨10 + s.val, by show _ < 42; omega⟩
abbrev recvS (s : Fin 16) : DmaSem sig := ⟨26 + s.val, by show _ < 42; omega⟩

example : ((cc0_scratch3.slice (Rect.unit (s := S8) ![7] S1.size inb_S8_S1_7)).squeeze S_ squeezes_S1_S_).sem = wS 7 := rfl
example : wS 7 = ((cc0_scratch3.slice (Rect.unit (s := S8) ![7] S1.size inb_S8_S1_7)).squeeze S_ squeezes_S1_S_).sem := by decide

abbrev barCell (c : Dev nD) : GSem nD τ sig := ((c : Thread nD τ), .reg barS)
abbrev extCell (c : Dev nD) : GSem nD τ sig := ((c : Thread nD τ), .reg extS)
abbrev sendCell (c : Dev nD) (s : Fin 16) : GSem nD τ sig := ((c : Thread nD τ), .dma (sendS s))
abbrev recvCell (c : Dev nD) (s : Fin 16) : GSem nD τ sig := ((c : Thread nD τ), .dma (recvS s))

/-- What a transferred block credits its semaphores. -/
abbrev N : ℕ := (gSlot 0).view.dmaCredit
theorem N_pos : 0 < N := View.dmaCredit_pos _ (by decide)
abbrev Nw : ℕ := (sSlot 0).view.dmaCredit
theorem Nw_pos : 0 < Nw := View.dmaCredit_pos _ (by decide)

example (s : Fin 16) : (gSlot s).view.dmaCredit = N := rfl
example (s : Dev nD) : (bRow s).view.dmaCredit = N := rfl
example (s : Fin 8) : (sSlot s).view.dmaCredit = Nw := rfl

end Cert.Exchange

end
-- ==== Proof.Schedule.lean ====
/-
# Who owes what to whom: the cells' rounds, the payloads, the levels

Every semaphore of the exchange is used for one round. A device's entry cell has one duty for each other device,
named by the index at which the owner sees the payer: one unit, which hands over the payer's landing slot that the
owner will send into. Its exit cell has the same fifteen duties, handing nothing. The cell of an arrival has one duty,
the credit of a block, which hands over the slot holding that block; the cell of a send has one, which hands the
block sent back.
-/
module

public import proofs.«01_k».proof.Proof.Places

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, the exchange's rounds, the local transfers' counters -/

abbrev UB : Type := URounds (GSem nD τ sig) (Fin 16)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's own rounds. -/
def ER : Emb UB (MT nD τ sig Unit (Elt F) ℕ UU ℕ) :=
  (Emb.inl : Emb UB (UB × Counters)).trans embR
instance ER_landsIn : (ER : Emb UB 𝕄).LandsIn (upEmb : UEmb _ 𝕄) := by unfold ER embR; infer_instance

/-- The local transfers' counters. -/
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

/-- Device `c`'s column block of the left operand, as staged; -/
def xstg (c : Dev nD) : (cc0_stg0_0 : Ref sig .tc).ty.Contents (Elt F) :=
  (win0_0.blk (0 : Fin 1)).view.read (Elt F) ((s₀ m ρ).mem ((c : Thread nD τ).loc main_arg0))
/-- the same, narrowed; -/
def xbf (c : Dev nD) : (cc0_scratch0 : Ref sig .tc).ty.Contents (Elt F) := k0_pay1 (xstg m ρ c)
/-- its row block `d`. -/
def xblk (c d : Dev nD) : Vec F S256x256 .bf16 := (bRow d).view.read (Elt F) (xbf m ρ c)
/-- Device `c`'s right operand, and its row block `d`. -/
def warr (c : Dev nD) : (main_arg1 : Ref sig .tc).ty.Contents (Elt F) := (s₀ m ρ).mem ((c : Thread nD τ).loc main_arg1)
def wblk (c d : Dev nD) : Vec F S256x2048 .f32 := (wRow d).view.read (Elt F) (warr m ρ c)

/-! ## The pieces of memory that are handed around -/

/-- Landing slot `s` of device `c`, at any contents; -/
def slotAny (c : Dev nD) (s : Fin 16) : sProp 𝕄 :=
  iprop(∃ f : Buf (Elt F) ((gSlot s).view.loc (c : Thread nD τ)), (gSlot s).view.loc (c : Thread nD τ) ↦[(gSlot s).view.set]{fullShare} f)
/-- holding the block of `src c s` meant for `c`. -/
def slotFull (c : Dev nD) (s : Fin 16) : sProp 𝕄 :=
  iprop(∃ f : Buf (Elt F) ((gSlot s).view.loc (c : Thread nD τ)),
    ⌜(gSlot s).view.read (Elt F) f = xblk m ρ (src c s) c⌝ ∗ (gSlot s).view.loc (c : Thread nD τ) ↦[(gSlot s).view.set]{fullShare} f)
/-- Row block `d` of device `c`'s narrowed left operand, at any contents; -/
def rowAny (c d : Dev nD) : sProp 𝕄 :=
  iprop(∃ f : Buf (Elt F) ((bRow d).view.loc (c : Thread nD τ)), (bRow d).view.loc (c : Thread nD τ) ↦[(bRow d).view.set]{fullShare} f)
/-- at the narrowed operand. -/
def rowFull (c d : Dev nD) : sProp 𝕄 :=
  (bRow d).view.loc (c : Thread nD τ) ↦[(bRow d).view.set]{fullShare} (xbf m ρ c : Buf (Elt F) ((bRow d).view.loc (c : Thread nD τ)))

omit [FloatOps F] in
instance slotAny_storable (c : Dev nD) (s : Fin 16) : BI.Storable (upEmb : UEmb _ 𝕄) (slotAny (F := F) c s) := by
  unfold slotAny; infer_instance
instance slotFull_storable (c : Dev nD) (s : Fin 16) : BI.Storable (upEmb : UEmb _ 𝕄) (slotFull (F := F) m ρ c s) := by
  unfold slotFull; infer_instance
omit [FloatOps F] in
instance rowAny_storable (c d : Dev nD) : BI.Storable (upEmb : UEmb _ 𝕄) (rowAny (F := F) c d) := by
  unfold rowAny; infer_instance

/-- What is left of a full slot when its contents are forgotten; the same of a row block. -/
theorem slotFull_any (c : Dev nD) (s : Fin 16) : slotFull m ρ c s ⊢ slotAny c s := by
  unfold slotFull slotAny; iintro ⟨%f, -, H⟩; iexists f; iexact H
theorem rowFull_any (c d : Dev nD) : rowFull m ρ c d ⊢ rowAny c d := by
  unfold rowFull rowAny; iintro H; iexists _; iexact H

/-! ## The schedule -/

/-- The semaphores of blocks in flight: of the sends and arrivals, other than the unused one of index zero. -/
abbrev IsXfer (q : DmaSem sig) : Prop := 10 < q.val ∧ q.val ≠ 26

/-- The duties of a cell by its semaphore. -/
def dutiesOf : SemLoc sig → Finset (Fin 16)
  | .reg _ => Finset.univ.erase 0
  | .dma q => if IsXfer q then {0} else ∅

/-- The slot a send's or an arrival's semaphore belongs to. -/
def slotOf (q : DmaSem sig) : Fin 16 := ⟨(q.val + 6) % 16, Nat.mod_lt _ (by decide)⟩

/-- The payload of a duty by its cell's semaphore. -/
def payOf (c : Dev nD) (d : Fin 16) : SemLoc sig → sProp 𝕄
  | .reg r => if r = barS then slotAny (src c d) (neg d) else iprop(emp)
  | .dma q => if q.val < 26 then rowAny c (src c (neg (slotOf q))) else slotFull m ρ c (slotOf q)

/-- The amount of a duty by its cell's semaphore. -/
def amountOf : SemLoc sig → ℕ
  | .reg _ => 1
  | .dma _ => N

/-- One round of every cell of the exchange. -/
def Rd : Rounds.Schedule (GSem nD τ sig) (Fin 16) 𝕄 where
  duties g r := if r = 0 ∧ g.1.2 = .tc then dutiesOf g.2 else ∅
  unitless _ := False
  amount g _ _ := amountOf g.2
  payload g _ d := payOf m ρ g.1.1 d g.2
  amount_pos g _ _ _ := by
    cases g.2 with
    | reg _ => exact Nat.one_pos
    | dma _ => exact N_pos

instance Rd_payload_storable (g : GSem nD τ sig) (r : ℕ) (d : Fin 16) :
    BI.Storable (upEmb : UEmb _ 𝕄) ((Rd (F := F) m ρ).payload g r d) := by
  show BI.Storable upEmb (payOf m ρ g.1.1 d g.2)
  unfold payOf
  (repeat' split) <;> infer_instance

theorem duties_at (c : Dev nD) (sm : SemLoc sig) : (Rd (F := F) m ρ).duties ((c : Thread nD τ), sm) 0 = dutiesOf sm := by
  dsimp only [Rd]; exact if_pos ⟨rfl, rfl⟩
theorem duties_bar (c : Dev nD) : (Rd (F := F) m ρ).duties (barCell c) 0 = Finset.univ.erase 0 := duties_at m ρ c _
theorem duties_ext (c : Dev nD) : (Rd (F := F) m ρ).duties (extCell c) 0 = Finset.univ.erase 0 := duties_at m ρ c _
theorem duties_send (c : Dev nD) (s : Fin 16) (hs : s ≠ 0) : (Rd (F := F) m ρ).duties (sendCell c s) 0 = {0} := by
  refine (duties_at m ρ c _).trans (if_pos ?_)
  have h : s.val ≠ 0 := fun e => hs (Fin.ext e)
  exact ⟨by show 10 < 10 + s.val; omega, by show 10 + s.val ≠ 26; omega⟩
theorem duties_recv (c : Dev nD) (s : Fin 16) (hs : s ≠ 0) : (Rd (F := F) m ρ).duties (recvCell c s) 0 = {0} := by
  refine (duties_at m ρ c _).trans (if_pos ?_)
  have h : s.val ≠ 0 := fun e => hs (Fin.ext e)
  exact ⟨by show 10 < 26 + s.val; omega, by show 26 + s.val ≠ 26; omega⟩
theorem duties_later (g : GSem nD τ sig) : ∀ r, 1 ≤ r → (Rd (F := F) m ρ).duties g r = ∅ :=
  fun r hr => by dsimp only [Rd]; exact if_neg fun h => by omega

theorem amount_bar (c : Dev nD) (d : Fin 16) : (Rd (F := F) m ρ).amount (barCell c) 0 d = 1 := rfl
theorem amount_ext (c : Dev nD) (d : Fin 16) : (Rd (F := F) m ρ).amount (extCell c) 0 d = 1 := rfl
theorem amount_send (c : Dev nD) (s d : Fin 16) : (Rd (F := F) m ρ).amount (sendCell c s) 0 d = N := rfl
theorem amount_recv (c : Dev nD) (s d : Fin 16) : (Rd (F := F) m ρ).amount (recvCell c s) 0 d = N := rfl

theorem expect_bar (c : Dev nD) : (Rd (F := F) m ρ).expect (barCell c) 0 = 15 := by
  unfold Schedule.expect Schedule.amountOf
  rw [duties_bar, Finset.sum_congr rfl fun d _ => amount_bar m ρ c d, Finset.sum_const]; rfl
theorem expect_ext (c : Dev nD) : (Rd (F := F) m ρ).expect (extCell c) 0 = 15 := by
  unfold Schedule.expect Schedule.amountOf
  rw [duties_ext, Finset.sum_congr rfl fun d _ => amount_ext m ρ c d, Finset.sum_const]; rfl
theorem expect_send (c : Dev nD) (s : Fin 16) (hs : s ≠ 0) : (Rd (F := F) m ρ).expect (sendCell c s) 0 = N := by
  unfold Schedule.expect Schedule.amountOf; rw [duties_send m ρ c s hs, Finset.sum_singleton, amount_send]
theorem expect_recv (c : Dev nD) (s : Fin 16) (hs : s ≠ 0) : (Rd (F := F) m ρ).expect (recvCell c s) 0 = N := by
  unfold Schedule.expect Schedule.amountOf; rw [duties_recv m ρ c s hs, Finset.sum_singleton, amount_recv]

theorem payload_bar (c : Dev nD) (d : Fin 16) : (Rd (F := F) m ρ).payload (barCell c) 0 d = slotAny (src c d) (neg d) := by
  dsimp only [Rd, payOf]; exact if_pos rfl
theorem payload_ext (c : Dev nD) (d : Fin 16) : (Rd (F := F) m ρ).payload (extCell c) 0 d = iprop(emp) := by
  dsimp only [Rd, payOf]; exact if_neg (by decide)
theorem payload_send (c : Dev nD) (s d : Fin 16) : (Rd (F := F) m ρ).payload (sendCell c s) 0 d = rowAny c (src c (neg s)) := by
  show (if 10 + s.val < 26 then rowAny c (src c (neg (slotOf (sendS s)))) else slotFull m ρ c (slotOf (sendS s))) = _
  rw [if_pos (by omega)]
  have : slotOf (sendS s) = s := Fin.ext (by show (10 + s.val + 6) % 16 = s.val; omega)
  rw [this]
theorem payload_recv (c : Dev nD) (s d : Fin 16) : (Rd (F := F) m ρ).payload (recvCell c s) 0 d = slotFull m ρ c s := by
  show (if 26 + s.val < 26 then rowAny c (src c (neg (slotOf (recvS s)))) else slotFull m ρ c (slotOf (recvS s))) = _
  rw [if_neg (by omega)]
  have : slotOf (recvS s) = s := Fin.ext (by show (26 + s.val + 6) % 16 = s.val; omega)
  rw [this]

theorem rest_bar (c : Dev nD) :
    bigSep ((Rd (F := F) m ρ).duties (barCell c) 0 \ ∅) (fun d => (Rd (F := F) m ρ).payload (barCell c) 0 d)
      = bigSep (Finset.univ.erase (0 : Fin 16)) fun s => slotAny (src c s) (neg s) := by
  rw [Finset.sdiff_empty, duties_bar]; exact congrArg _ (funext fun d => payload_bar m ρ c d)
theorem rest_send (c : Dev nD) (s : Fin 16) (hs : s ≠ 0) :
    bigSep ((Rd (F := F) m ρ).duties (sendCell c s) 0 \ ∅) (fun d => (Rd (F := F) m ρ).payload (sendCell c s) 0 d)
      = rowAny c (src c (neg s)) := by
  rw [Finset.sdiff_empty, duties_send m ρ c s hs, bigSep_singleton, payload_send]
theorem rest_recv (c : Dev nD) (s : Fin 16) (hs : s ≠ 0) :
    bigSep ((Rd (F := F) m ρ).duties (recvCell c s) 0 \ ∅) (fun d => (Rd (F := F) m ρ).payload (recvCell c s) 0 d)
      = slotFull m ρ c s := by
  rw [Finset.sdiff_empty, duties_recv m ρ c s hs, bigSep_singleton, payload_recv]

/-! ## The turns still to come of fifteen -/

/-- Turns `n` to `14`. -/
def rest (n : ℕ) : Finset (Fin 15) := Finset.univ.filter fun d => n ≤ d.val

theorem mem_rest {n : ℕ} {d : Fin 15} : d ∈ rest n ↔ n ≤ d.val := by simp [rest]
theorem rest_zero : rest 0 = Finset.univ := by ext d; simp [rest]
theorem rest_all : rest 15 = ∅ := by
  ext d; simp only [mem_rest, Finset.notMem_empty, iff_false]; omega
theorem rest_notMem (d : Fin 15) : d ∉ rest (d.val + 1) := by rw [mem_rest]; omega
theorem rest_cons (d : Fin 15) : rest d.val = insert d (rest (d.val + 1)) := by
  ext e; rw [Finset.mem_insert, mem_rest, mem_rest, Fin.ext_iff]; omega

omit [FloatOps F] in
/-- The next turn's share, split off. -/
theorem bigSep_rest (d : Fin 15) (Φ : Fin 15 → sProp 𝕄) : bigSep (rest d.val) Φ = iprop(Φ d ∗ bigSep (rest (d.val + 1)) Φ) := by
  rw [rest_cons, bigSep_insert (rest_notMem d)]; rfl

/-- Turns `0` to `n - 1`. -/
def done (n : ℕ) : Finset (Fin 15) := Finset.univ.filter fun d => d.val < n

theorem mem_done {n : ℕ} {d : Fin 15} : d ∈ done n ↔ d.val < n := by simp [done]
theorem done_zero : done 0 = ∅ := by ext d; simp [done]
theorem done_all : done 15 = Finset.univ := by
  ext d; simp only [mem_done, Finset.mem_univ, iff_true]; omega
theorem done_notMem (d : Fin 15) : d ∉ done d.val := by rw [mem_done]; omega
theorem done_cons (d : Fin 15) : done (d.val + 1) = insert d (done d.val) := by
  ext e; rw [Finset.mem_insert, mem_done, mem_done, Fin.ext_iff]; omega

omit [FloatOps F] in
/-- This turn's share, joined to the ones before it. -/
theorem bigSep_done (d : Fin 15) (Φ : Fin 15 → sProp 𝕄) : bigSep (done (d.val + 1)) Φ = iprop(Φ d ∗ bigSep (done d.val) Φ) := by
  rw [done_cons, bigSep_insert (done_notMem d)]; rfl

/-! ## What a device owes -/

/-- The target of the `j`-th send and the slot it fills there. -/
def tgt (c : Dev nD) (j : Fin 15) : Dev nD := src c (ord j)
def tslot (j : Fin 15) : Fin 16 := neg (ord j)

theorem tslot_ne_zero : ∀ j : Fin 15, tslot j ≠ 0 := by decide +kernel

/-- What device `c` still owes: its entry signals from `nb` on, its sends from `ns` on, its exit signals from `nx` on. -/
def debt (c : Dev nD) (nb ns nx : ℕ) : CellTallies nD τ sig Unit :=
  (∑ d ∈ rest nb, tallyAt (barCell (peer c d)) () 1)
    + ((∑ j ∈ rest ns, tallyAt (recvCell (tgt c j) (tslot j)) () N)
      + ∑ d ∈ rest nx, tallyAt (extCell (peer c d)) () 1)

theorem debt_bar (c : Dev nD) (d : Fin 15) (ns nx : ℕ) :
    debt c d.val ns nx = debt c (d.val + 1) ns nx + tallyAt (barCell (peer c d)) () 1 := by
  unfold debt; rw [rest_cons d, Finset.sum_insert (rest_notMem d)]; ac_rfl
theorem debt_send (c : Dev nD) (nb : ℕ) (j : Fin 15) (nx : ℕ) :
    debt c nb j.val nx = debt c nb (j.val + 1) nx + tallyAt (recvCell (tgt c j) (tslot j)) () N := by
  unfold debt; rw [rest_cons j, Finset.sum_insert (rest_notMem j)]; ac_rfl
theorem debt_ext (c : Dev nD) (nb ns : ℕ) (d : Fin 15) :
    debt c nb ns d.val = debt c nb ns (d.val + 1) + tallyAt (extCell (peer c d)) () 1 := by
  unfold debt; rw [rest_cons d, Finset.sum_insert (rest_notMem d)]; ac_rfl
theorem debt_none (c : Dev nD) : debt c 15 15 15 = 0 := by
  unfold debt; rw [rest_all, Finset.sum_empty, Finset.sum_empty, Finset.sum_empty, add_zero, add_zero]

/-- A sum of tallies is positive only at one of its cells. -/
theorem sum_tally_pos {S : Finset (Fin 15)} {g : Fin 15 → GSem nD τ sig} {k : ℕ} {g' : GSem nD τ sig} {u : Unit}
    (h : 0 < (∑ d ∈ S, tallyAt (g d) () k : CellTallies nD τ sig Unit) g' u) : ∃ d ∈ S, g' = g d := by
  rw [Finset.sum_apply, Finsupp.finset_sum_apply] at h
  obtain ⟨d, hd, hne⟩ := Finset.exists_ne_zero_of_sum_ne_zero (Nat.pos_iff_ne_zero.mp h)
  refine ⟨d, hd, ?_⟩
  rw [tallyAt_apply] at hne
  by_contra hn
  exact hne (if_neg fun h' => hn h'.1)

/-- What is owed is owed to an entry cell, an arrival cell or an exit cell, each while its turns last. -/
theorem debt_pos {c : Dev nD} {nb ns nx : ℕ} {g : GSem nD τ sig} {u : Unit} (h : 0 < debt c nb ns nx g u) :
    (nb < 15 ∧ ∃ t, g = barCell t) ∨ (ns < 15 ∧ ∃ t s, g = recvCell t s) ∨ ∃ t, g = extCell t := by
  unfold debt at h
  rw [Pi.add_apply, Finsupp.add_apply, Pi.add_apply, Finsupp.add_apply] at h
  rcases Nat.eq_zero_or_pos ((∑ d ∈ rest nb, tallyAt (barCell (peer c d)) () 1 : CellTallies nD τ sig Unit) g u) with h1 | h1
  · rcases Nat.eq_zero_or_pos ((∑ j ∈ rest ns, tallyAt (recvCell (tgt c j) (tslot j)) () N : CellTallies nD τ sig Unit) g u) with h2 | h2
    · rw [h1, h2, zero_add, zero_add] at h
      obtain ⟨d, _, e⟩ := sum_tally_pos h
      exact .inr (.inr ⟨_, e⟩)
    · obtain ⟨d, hd, e⟩ := sum_tally_pos h2
      exact .inr (.inl ⟨lt_of_le_of_lt (mem_rest.mp hd) d.isLt, _, _, e⟩)
  · obtain ⟨d, hd, e⟩ := sum_tally_pos h1
    exact .inl ⟨lt_of_le_of_lt (mem_rest.mp hd) d.isLt, _, e⟩

/-! ## The levels: staging, stream and sends, then entry, then arrivals, then exit -/

def L (g : GSem nD τ sig) : Finset Unit := if g.1.2 = .tc then {()} else ∅
def lvOf : SemLoc sig → ℕ
  | .reg r => if r = barS then 1 else 3
  | .dma q => if q.val < 26 then 0 else 2
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by dsimp only [lv, lvOf]; exact if_pos rfl
theorem lv_ext (c : Dev nD) (u : Unit) : lv (extCell c) u = 3 := by dsimp only [lv, lvOf]; exact if_neg (by decide)
theorem lv_recv (c : Dev nD) (s : Fin 16) (u : Unit) : lv (recvCell c s) u = 2 := if_neg (by show ¬ 26 + s.val < 26; omega)

omit [FloatOps F] in
/-- A device may wait at a level below all that it owes. -/
theorem mayWait_of (c : Dev nD) (sm : SemLoc sig) (nb ns nx l : ℕ) (hl : lvOf sm ≤ l)
    (hb : nb < 15 → l < 1) (hs : ns < 15 → l < 2) (hx : l < 3) :
    (levAts L lv : sProp 𝕄) ⊢ MayWait (c : Thread nD τ) sm () (debt c nb ns nx) :=
  MayOwe.of_cut (L := L) (lev := lv) l
    (fun p hp => by rw [Finset.mem_singleton.mp hp, L_tc]; exact Finset.mem_singleton_self _)
    (fun g u hg => by
      rcases debt_pos hg with ⟨_, t, rfl⟩ | ⟨_, t, s, rfl⟩ | ⟨t, rfl⟩ <;> exact Finset.mem_singleton_self _)
    (fun p hp => by rw [Finset.mem_singleton.mp hp]; exact hl)
    (fun g u hg => by
      rcases debt_pos hg with ⟨h, t, rfl⟩ | ⟨h, t, s, rfl⟩ | ⟨t, rfl⟩
      · rw [lv_bar]; exact hb h
      · rw [lv_recv]; exact hs h
      · rw [lv_ext]; exact hx)

end Cert.Exchange

end
-- ==== Proof.State.lean ====
/-
# What a device holds as its body runs

The body's state is one assertion with a counter for each thing that advances: entry and exit signals, sends, waits
for sends and arrivals, copies of the right operand issued and awaited, products accumulated.
-/
module

public import proofs.«01_k».proof.Proof.Schedule
public import Idealize.ShloMosaic.Lib.Pipeline.Value

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program of device `c`'s core. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Values -/

/-- Item `i` of the stream of sixteen, as an index of a device. -/
def it (i : ℕ) : Fin 16 := ⟨i % 16, Nat.mod_lt _ (by decide)⟩

/-- A block as a load of its one-block slot reads it. -/
def liftW (w : Vec F S256x2048 .f32) : Vec F S1x256x2048 .f32 := shapeCast S1x256x2048 w (by decide)
def liftG (g : Vec F S256x256 .bf16) : Vec F S1x256x256 .bf16 := shapeCast S1x256x256 g (by decide)

/-- The product of a left block with a narrowed right block; -/
def prod (g : Vec F S256x256 .bf16) (w : Vec F S256x2048 .f32) : FVec F S256x2048 .f32 :=
  matmul dot_S256x256_S256x2048_S256x2048_1_0_0_1_n_n none g (truncf .bf16 w bitsLt_bf16_f32 : FVec F S256x2048 .bf16)
    (constant S256x2048 .f32 0x00000000#32)
/-- what device `c`'s result holds after the products of indices `0` to `n`. -/
def acc (c : Dev nD) : ℕ → FVec F S256x2048 .f32
  | 0 => prod (xblk m ρ c c) (wblk m ρ c (src c (it 0)))
  | n + 1 => addf (acc c n) (prod (xblk m ρ (src c (it (n + 1))) c) (wblk m ρ c (src c (it (n + 1)))))

theorem pay_first (g : Vec F S256x256 .bf16) (w : Vec F S256x2048 .f32) : k0_pay2 g (liftW w) = prod g w := by
  show matmul _ none g (truncf .bf16 (shapeCast S256x2048 (shapeCast S1x256x2048 w _) _) _) _ = _
  rw [shapeCast_shapeCast]; rfl
theorem pay_add (g : Vec F S256x256 .bf16) (w : Vec F S256x2048 .f32) (a : Vec F S256x2048 .f32) :
    k0_pay4 g (liftW w) a = addf a (prod g w) := by
  show addf (shapeCast S256x2048 a _) (matmul _ none g (truncf .bf16 (shapeCast S256x2048 (shapeCast S1x256x2048 w _) _) _) _) = _
  rw [shapeCast_shapeCast, shapeCast_self]; rfl
theorem pay_lift (g : Vec F S256x256 .bf16) : k0_pay3 (liftG g) = g := by
  show shapeCast S256x256 (shapeCast S1x256x256 g _) _ = g
  rw [shapeCast_shapeCast]

omit [FloatOps F] in
/-- A load of a slot whose one block is `X` reads `X` with the slot's leading axis of one. -/
theorem load_sSlot (k : Fin 8) {c : Dev nD} {X : Vec F S256x2048 .f32} (f : Buf (Elt F) ((sSlot k).view.loc (c : Thread nD τ)))
    (h : (sSlot k).view.read (Elt F) f = X) : sM.view.readAt (Elt F) (sRect k).toLoadRect f = liftW X := by
  subst h
  rw [show (sSlot k).view.read (Elt F) f = shapeCast S256x2048 (sM.view.readAt (Elt F) (sRect k).toLoadRect f) shapeCasts_S1x256x2048_S256x2048 from rfl]
  unfold liftW; rw [shapeCast_shapeCast]
omit [FloatOps F] in
theorem load_gSlot (s : Fin 16) {c : Dev nD} {X : Vec F S256x256 .bf16} (f : Buf (Elt F) ((gSlot s).view.loc (c : Thread nD τ)))
    (h : (gSlot s).view.read (Elt F) f = X) : gM.view.readAt (Elt F) (gRect s).toLoadRect f = liftG X := by
  subst h
  rw [show (gSlot s).view.read (Elt F) f = shapeCast S256x256 (gM.view.readAt (Elt F) (gRect s).toLoadRect f) shapeCasts_S1x256x256_S256x256 from rfl]
  unfold liftG; rw [shapeCast_shapeCast]

/-! ## The cells' invariants -/

/-- The semaphores of a device's thirty-two cells: entry, the sends, exit, the arrivals. -/
def csem (i : Fin 32) : SemLoc sig :=
  if i.val = 0 then .reg barS else if i.val = 16 then .reg extS else .dma ⟨10 + i.val, by show _ < 42; omega⟩

/-- The cell of index `i` of device `c`. -/
abbrev kcell (ci : Dev nD × Fin 32) : GSem nD τ sig := ((ci.1 : Thread nD τ), csem ci.2)

theorem csem_injective : Function.Injective csem := by decide +kernel
theorem kcell_injective : Function.Injective kcell := by
  rintro ⟨c, i⟩ ⟨c', i'⟩ h
  have h1 : c = c' := congrArg (fun g : GSem nD τ sig => g.1.1) h
  have h2 : i = i' := csem_injective (congrArg (fun g : GSem nD τ sig => g.2) h)
  rw [h1, h2]

def cells : Finset (GSem nD τ sig) := Finset.univ.map ⟨kcell, kcell_injective⟩

theorem kcell_mem (c : Dev nD) (i : Fin 32) {g : GSem nD τ sig} (h : g = kcell (c, i)) : g ∈ cells :=
  h ▸ Finset.mem_map_of_mem (⟨kcell, kcell_injective⟩ : Dev nD × Fin 32 ↪ GSem nD τ sig) (Finset.mem_univ (c, i))

theorem csem_send : ∀ s : Fin 16, s ≠ 0 → SemLoc.dma (sendS s) = csem ⟨s.val, by omega⟩ := by decide +kernel
theorem csem_recv : ∀ s : Fin 16, s ≠ 0 → SemLoc.dma (recvS s) = csem ⟨16 + s.val, by omega⟩ := by decide +kernel

theorem bar_mem (c : Dev nD) : barCell c ∈ cells := kcell_mem c 0 rfl
theorem ext_mem (c : Dev nD) : extCell c ∈ cells := kcell_mem c 16 rfl
theorem send_mem (c : Dev nD) (s : Fin 16) (hs : s ≠ 0) : sendCell c s ∈ cells :=
  kcell_mem c ⟨s.val, by omega⟩ (by dsimp only [kcell]; rw [← csem_send s hs])
theorem recv_mem (c : Dev nD) (s : Fin 16) (hs : s ≠ 0) : recvCell c s ∈ cells :=
  kcell_mem c ⟨16 + s.val, by omega⟩ (by dsimp only [kcell]; rw [← csem_recv s hs])

/-- Shared by all devices: every cell's invariant, that every cell has reached its round, and the levels. -/
def Recs (K : GSem nD τ sig → ℕ) : sProp 𝕄 :=
  iprop((bigSep cells fun g => iprop(cellInv ER (Rd m ρ) (K g) g ∗ reached ER g 0)) ∗ levAts L lv)

instance Recs_persistent (K : GSem nD τ sig → ℕ) : BI.Persistent (Recs (F := F) m ρ K) := by unfold Recs; infer_instance

theorem recs_inv (K : GSem nD τ sig → ℕ) {g : GSem nD τ sig} (hg : g ∈ cells) : Recs m ρ K ⊢ cellInv ER (Rd m ρ) (K g) g := by
  unfold Recs; iintro ⟨H, -⟩
  ihave H' := (show (bigSep cells (fun g => iprop(cellInv ER (Rd m ρ) (K g) g ∗ reached ER g 0)) : sProp 𝕄) ⊢ iprop(cellInv ER (Rd m ρ) (K g) g ∗ reached ER g 0) from bigSep_elim hg) $$ H
  icases H' with ⟨H', -⟩; iexact H'
theorem recs_reached (K : GSem nD τ sig → ℕ) {g : GSem nD τ sig} (hg : g ∈ cells) : Recs m ρ K ⊢ reached ER g 0 := by
  unfold Recs; iintro ⟨H, -⟩
  ihave H' := (show (bigSep cells (fun g => iprop(cellInv ER (Rd m ρ) (K g) g ∗ reached ER g 0)) : sProp 𝕄) ⊢ iprop(cellInv ER (Rd m ρ) (K g) g ∗ reached ER g 0) from bigSep_elim hg) $$ H
  icases H' with ⟨-, H'⟩; iexact H'
theorem recs_lev (K : GSem nD τ sig → ℕ) : Recs m ρ K ⊢ levAts L lv := by
  unfold Recs; iintro ⟨-, H⟩; iexact H

/-! ## The stream of the right operand -/

/-- Item `i`'s row block of the right operand. -/
def rowW (c : Dev nD) (i : ℕ) : sProp 𝕄 :=
  (wRow (src c (it i))).view.loc (c : Thread nD τ) ↦[(wRow (src c (it i))).view.set]{fullShare}
    (warr m ρ c : Buf (Elt F) ((wRow (src c (it i))).view.loc (c : Thread nD τ)))
/-- Slot `k` at any contents; -/
def strAny (c : Dev nD) (k : Fin 8) : sProp 𝕄 :=
  iprop(∃ f : Buf (Elt F) ((sSlot k).view.loc (c : Thread nD τ)), (sSlot k).view.loc (c : Thread nD τ) ↦[(sSlot k).view.set]{fullShare} f)
/-- holding item `i`. -/
def strFull (c : Dev nD) (i : ℕ) (k : Fin 8) : sProp 𝕄 :=
  iprop(∃ f : Buf (Elt F) ((sSlot k).view.loc (c : Thread nD τ)),
    ⌜(sSlot k).view.read (Elt F) f = wblk m ρ c (src c (it i))⌝ ∗ (sSlot k).view.loc (c : Thread nD τ) ↦[(sSlot k).view.set]{fullShare} f)

/-- Slot `k` before any copy into it; -/
def Free (c : Dev nD) (k : Fin 8) : sProp 𝕄 :=
  iprop(strAny c k ∗ semVal ((c : Thread nD τ), .dma (wS k)) 0 ∗ rowW m ρ c k.val ∗ rowW m ρ c (k.val + 8))
/-- with the copy of item `i` on its way; -/
def Fly (c : Dev nD) (i : ℕ) (k : Fin 8) : sProp 𝕄 :=
  iprop(Transfers.Flight EC (c : Thread nD τ) (.dma (wS k)) () Nw iprop(strFull m ρ c i k ∗ rowW m ρ c i) ∗ rowW m ρ c (i + 8))
/-- with item `i` in it. -/
def Full (c : Dev nD) (i : ℕ) (k : Fin 8) : sProp 𝕄 :=
  iprop(strFull m ρ c i k ∗ semVal ((c : Thread nD τ), .dma (wS k)) 0 ∗ rowW m ρ c i ∗ rowW m ρ c (i + 8))

/-- The item slot `k` was last given of the first `a`. -/
def cur (a k : ℕ) : ℕ := if a ≤ k + 8 then k else k + 8

/-- Slot `k` when `a` items have been issued and `b` awaited. -/
def slotSt (c : Dev nD) (a b : ℕ) (k : Fin 8) : sProp 𝕄 :=
  if a ≤ k.val then Free m ρ c k else if b ≤ cur a k.val then Fly m ρ c (cur a k.val) k else Full m ρ c (cur a k.val) k

/-- The stream when `a` items have been issued and `b` awaited. -/
def Str (c : Dev nD) (a b : ℕ) : sProp 𝕄 := bigSep Finset.univ fun k : Fin 8 => slotSt m ρ c a b k

/-- An item's row block is that of the item sixteen further. -/
theorem rowW_wrap (c : Dev nD) (i : ℕ) : rowW m ρ c (i + 8 + 8) = rowW m ρ c i := by
  have : it (i + 8 + 8) = it i := Fin.ext (by show (i + 8 + 8) % 16 = i % 16; omega)
  unfold rowW; rw [this]

/-- A slot with an item in it, its contents forgotten, is as before a copy of an item eight further on. -/
theorem strFull_any (c : Dev nD) (i : ℕ) (k : Fin 8) : strFull m ρ c i k ⊢ strAny c k := by
  unfold strFull strAny; iintro ⟨%f, -, H⟩; iexists f; iexact H

/-- The slot of the item about to be issued: its own row block, the other of the slot, the slot, its semaphore. -/
theorem slot_issue (c : Dev nD) (a b : ℕ) (k : Fin 8) (hk : k.val = a % 8) (ha : a < 16) (hb : a < b + 8) :
    slotSt m ρ c a b k ⊢ iprop(strAny c k ∗ semVal ((c : Thread nD τ), .dma (wS k)) 0 ∗ rowW m ρ c a ∗ rowW m ρ c (a + 8)) := by
  unfold slotSt
  by_cases h : a ≤ k.val
  · have e : k.val = a := by omega
    rw [if_pos h]; unfold Free; rw [e]
  · have e : cur a k.val = k.val := by unfold cur; exact if_pos (by omega)
    rw [if_neg h, e, if_neg (by omega)]
    have ha : a = k.val + 8 := by omega
    unfold Full; rw [ha, rowW_wrap]
    iintro ⟨HF, Hv, H1, H2⟩
    isplitl [HF]; · iapply (strFull_any m ρ c k.val k); iexact HF
    isplitl [Hv]; · iexact Hv
    isplitl [H2]; · iexact H2
    iexact H1

theorem slot_issued (c : Dev nD) (a b : ℕ) (k : Fin 8) (hk : k.val = a % 8) (ha : a < 16) (hb : b ≤ a) :
    Fly m ρ c a k ⊢ slotSt m ρ c (a + 1) b k := by
  have e : cur (a + 1) k.val = a := by unfold cur; split <;> omega
  unfold slotSt; rw [if_neg (by omega), e, if_pos hb]

theorem slot_issue_other (c : Dev nD) (a b : ℕ) (k : Fin 8) (hk : k.val ≠ a % 8) (ha : a < 16) :
    slotSt m ρ c a b k = slotSt m ρ c (a + 1) b k := by
  have e : cur (a + 1) k.val = cur a k.val := by unfold cur; split <;> split <;> omega
  unfold slotSt
  by_cases h : a ≤ k.val
  · rw [if_pos h, if_pos (by omega)]
  · rw [if_neg h, if_neg (show ¬ a + 1 ≤ k.val by omega), e]

theorem slot_await (c : Dev nD) (a b : ℕ) (k : Fin 8) (hk : k.val = b % 8) (ha : b < a) (hb : a ≤ b + 8) (hb' : b < 16) :
    slotSt m ρ c a b k = Fly m ρ c b k := by
  have e : cur a k.val = b := by unfold cur; split <;> omega
  unfold slotSt; rw [if_neg (by omega), e, if_pos le_rfl]

theorem slot_awaited (c : Dev nD) (a b : ℕ) (k : Fin 8) (hk : k.val = b % 8) (ha : b < a) (hb : a ≤ b + 8) (hb' : b < 16) :
    slotSt m ρ c a (b + 1) k = Full m ρ c b k := by
  have e : cur a k.val = b := by unfold cur; split <;> omega
  unfold slotSt; rw [if_neg (by omega), e, if_neg (by omega)]

theorem slot_await_other (c : Dev nD) (a b : ℕ) (k : Fin 8) (hk : k.val ≠ b % 8) (ha : b < a) (hb : a ≤ b + 8) (hb' : b < 16) :
    slotSt m ρ c a b k = slotSt m ρ c a (b + 1) k := by
  unfold slotSt
  by_cases h : a ≤ k.val
  · rw [if_pos h, if_pos h]
  · rw [if_neg h, if_neg h]
    have : cur a k.val ≠ b := by unfold cur; split <;> omega
    by_cases h' : b ≤ cur a k.val
    · rw [if_pos h', if_pos (by omega)]
    · rw [if_neg h', if_neg (by omega)]

/-- One slot changes, the others stay. -/
theorem bigSep_at {Φ Ψ : Fin 8 → sProp 𝕄} (k : Fin 8) (h : ∀ k' ≠ k, Φ k' = Ψ k') :
    bigSep Finset.univ Φ = iprop(Φ k ∗ bigSep (Finset.univ.erase k) Ψ) := by
  rw [bigSep_erase (Finset.mem_univ k)]
  exact congrArg (fun X => iprop(Φ k ∗ X)) (bigSep_congr fun k' hk' => h k' (Finset.ne_of_mem_erase hk'))

theorem str_issue (c : Dev nD) (a b : ℕ) (k : Fin 8) (hk : k.val = a % 8) (ha : a < 16) (hb : a < b + 8) (hb' : b ≤ a) :
    Str m ρ c a b ⊢ iprop((strAny c k ∗ semVal ((c : Thread nD τ), .dma (wS k)) 0 ∗ rowW m ρ c a ∗ rowW m ρ c (a + 8))
      ∗ (Fly m ρ c a k -∗ Str m ρ c (a + 1) b)) := by
  unfold Str
  rw [bigSep_at k (Ψ := fun k => slotSt m ρ c (a + 1) b k) (fun k' h => slot_issue_other m ρ c a b k' (fun e => h (Fin.ext (by omega))) ha)]
  iintro ⟨H, Hr⟩
  isplitl [H]; · iapply (slot_issue m ρ c a b k hk ha hb); iexact H
  iintro H
  rw [bigSep_at k (Φ := fun k => slotSt m ρ c (a + 1) b k) (fun _ _ => rfl)]
  isplitl [H]; · iapply (slot_issued m ρ c a b k hk ha hb'); iexact H
  iexact Hr

theorem str_await (c : Dev nD) (a b : ℕ) (k : Fin 8) (hk : k.val = b % 8) (ha : b < a) (hb : a ≤ b + 8) (hb' : b < 16) :
    Str m ρ c a b ⊢ iprop(Fly m ρ c b k ∗ (Full m ρ c b k -∗ Str m ρ c a (b + 1))) := by
  unfold Str
  rw [bigSep_at k (Ψ := fun k => slotSt m ρ c a (b + 1) k) (fun k' h => slot_await_other m ρ c a b k' (fun e => h (Fin.ext (by omega))) ha hb hb')]
  iintro ⟨H, Hr⟩
  isplitl [H]; · iapply (Entails.of_eq (slot_await m ρ c a b k hk ha hb hb')); iexact H
  iintro H
  rw [bigSep_at k (Φ := fun k => slotSt m ρ c a (b + 1) k) (fun _ _ => rfl)]
  isplitl [H]; · iapply (Entails.of_eq (slot_awaited m ρ c a b k hk ha hb hb').symm); iexact H
  iexact Hr

theorem str_full (c : Dev nD) (a b : ℕ) (k : Fin 8) (hk : k.val = b % 8) (ha : b < a) (hb : a ≤ b + 8) (hb' : b < 16) :
    Str m ρ c a (b + 1) ⊢ iprop(Full m ρ c b k ∗ (Full m ρ c b k -∗ Str m ρ c a (b + 1))) := by
  unfold Str
  rw [bigSep_at k (Φ := fun k => slotSt m ρ c a (b + 1) k) (fun _ _ => rfl), slot_awaited m ρ c a b k hk ha hb hb']
  iintro ⟨H, Hr⟩
  isplitl [H]; · iexact H
  iintro H
  isplitl [H] <;> iassumption

/-! ## The other parts of the state -/

/-- The entry handshake before its wait, `nb` signals sent: for each still to come, its token and the landing slot it
    hands over; the position, and the credit of the wait. -/
def Bar (c : Dev nD) (nb : ℕ) : sProp 𝕄 :=
  iprop((bigSep (rest nb) fun d => iprop(dutyTok ER (barCell (peer c d)) 0 (idx (peer c d) c) ∗ slotAny c (idx c (peer c d))))
    ∗ atPos ER (barCell c) 0 ∅ 0 ∗ cred (tallyAt (barCell c) () 15))
/-- The exit handshake before its wait, `nx` signals sent. -/
def Ext (c : Dev nD) (nx : ℕ) : sProp 𝕄 :=
  iprop((bigSep (rest nx) fun d => dutyTok ER (extCell (peer c d)) 0 (idx (peer c d) c))
    ∗ atPos ER (extCell c) 0 ∅ 0 ∗ cred (tallyAt (extCell c) () 15))

/-- The staged operand, and the buffer of its narrowed copy before it is written; -/
def Xs (c : Dev nD) : sProp 𝕄 := ((c : Thread nD τ).loc cc0_stg0_0) ↦{fullShare} xstg m ρ c
def Bs (c : Dev nD) : sProp 𝕄 := iprop(∃ f : Buf (Elt F) ((c : Thread nD τ).loc cc0_scratch0), ((c : Thread nD τ).loc cc0_scratch0) ↦{fullShare} f)

/-- and when it holds the narrowed operand. -/
def Bf (c : Dev nD) : sProp 𝕄 := ((c : Thread nD τ).loc cc0_scratch0) ↦{fullShare} (xbf m ρ c : Buf (Elt F) ((c : Thread nD τ).loc cc0_scratch0))

/-- The fifteen indices other than zero, in the order of the sends. -/
theorem bigSep_ord (Φ : Fin 16 → sProp 𝕄) : bigSep (Finset.univ.erase 0) Φ = bigSep Finset.univ fun j => Φ (ord j) := by
  rw [← ord_cover, bigSep_image_of_injOn (fun _ _ _ _ h => ord_inj h)]

/-- The tokens of send `j` and the position of its cell, -/
def sendTok (c : Dev nD) (j : Fin 15) : sProp 𝕄 :=
  iprop(dutyTok ER (sendCell c (tslot j)) 0 0 ∗ dutyTok ER (recvCell (tgt c j) (tslot j)) 0 0)
def sendPos (c : Dev nD) (j : Fin 15) : sProp 𝕄 := atPos ER (sendCell c (tslot j)) 0 ∅ 0
def sendCred (c : Dev nD) (j : Fin 15) : sProp 𝕄 := cred (tallyAt (sendCell c (tslot j)) () N)
/-- and what is held once it has been awaited. -/
def sendEnd (c : Dev nD) (j : Fin 15) : sProp 𝕄 := iprop(semVal (sendCell c (tslot j)) 0 ∗ rowAny c (tgt c j))

/-- The sends before the entry wait; -/
def Snd0 (c : Dev nD) : sProp 𝕄 := iprop((bigSep Finset.univ (sendTok c)) ∗ bigSep Finset.univ (sendPos c))
/-- with `n` of them made: the blocks and slots of those to come; -/
def Snd1 (c : Dev nD) (n : ℕ) : sProp 𝕄 :=
  iprop((bigSep (rest n) fun j => iprop(sendTok c j ∗ rowFull m ρ c (tgt c j) ∗ slotAny (tgt c j) (tslot j)))
    ∗ (bigSep (done n) (sendCred c)) ∗ (bigSep Finset.univ (sendPos c)) ∗ rowFull m ρ c c)
/-- with `n` of them awaited. -/
def Snd2 (c : Dev nD) (n : ℕ) : sProp 𝕄 :=
  iprop((bigSep (rest n) fun j => iprop(sendCred c j ∗ sendPos c j)) ∗ (bigSep (done n) (sendEnd c)) ∗ rowFull m ρ c c)

/-- The slot of the `j`-th arrival awaited. -/
def rslot (j : Fin 15) : Fin 16 := ⟨j.val + 1, by omega⟩
theorem rslot_ne_zero : ∀ j : Fin 15, rslot j ≠ 0 := by decide +kernel

/-- The arrivals with `n` of them awaited. -/
def Rcv (c : Dev nD) (n : ℕ) : sProp 𝕄 :=
  iprop((bigSep (rest n) fun j => iprop(atPos ER (recvCell c (rslot j)) 0 ∅ 0 ∗ cred (tallyAt (recvCell c (rslot j)) () N)))
    ∗ bigSep (done n) fun j => iprop(semVal (recvCell c (rslot j)) 0 ∗ slotFull m ρ c (rslot j)))

/-- The result's buffer before the first product, and after that of index `n`. -/
def Out0 (c : Dev nD) : sProp 𝕄 := iprop(∃ f : Buf (Elt F) ((c : Thread nD τ).loc cc0_stg1_0), ((c : Thread nD τ).loc cc0_stg1_0) ↦{fullShare} f)
def Out (c : Dev nD) (n : ℕ) : sProp 𝕄 := ((c : Thread nD τ).loc cc0_stg1_0) ↦{fullShare} (acc m ρ c n : Buf (Elt F) ((c : Thread nD τ).loc cc0_stg1_0))

/-- Never used: the landing slot and the two completion semaphores of index zero. -/
def Idle (c : Dev nD) : sProp 𝕄 := iprop(slotAny c 0 ∗ semVal (sendCell c 0) 0 ∗ semVal (recvCell c 0) 0)

/-- The whole state: what is shared, what is owed, and the parts. -/
def St (K : GSem nD τ sig → ℕ) (c : Dev nD) (nb ns nx : ℕ) (W B X S V G E : sProp 𝕄) : sProp 𝕄 :=
  iprop(Recs m ρ K ∗ (∃ Wt, owes (c : Thread nD τ) (debt c nb ns nx) Wt) ∗ W ∗ B ∗ X ∗ S ∗ V ∗ G ∗ E)

end Cert.Exchange

end
-- ==== Proof.Steps.lean ====
/-
# One lemma per kind of operation

Each says: if the rest of the program is safe from the state after the operation, the operation followed by the rest
is safe from the state before it. Offsets, devices and semaphores stand as the program computes them, with what they
are equal to as a hypothesis.
-/
module

public import proofs.«01_k».proof.Proof.State

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : GSem nD τ sig → ℕ) (c : Dev nD)
variable {nb ns nx a b n : ℕ} {W B X S V G E : sProp (MT nD τ sig Unit (Elt F) ℕ UU ℕ)}
variable {α : Type} {Q : α → sProp (MT nD τ sig Unit (Elt F) ℕ UU ℕ)}

/-! ## The stream of the right operand -/

/-- Issue the copy of item `a` into its slot. -/
theorem step_issue (k : Fin 8) (hk : k.val = a % 8) (ha : a < 16) (hb : a < b + 8) (hb' : b ≤ a)
    {off : Fin 2 → ℕ} (hoff : off = rowAt (src c (it a))) {inb hst hsrc hdst hsem}
    {kk : PUnit → Prog (TpuEff nD τ sig (Elt F) Λ₀ .tc) α}
    (h : St m ρ K c nb ns nx (Str m ρ c (a + 1) b) B X S V G E ⊢ WP c (kk ⟨⟩) Q) :
    St m ρ K c nb ns nx (Str m ρ c a b) B X S V G E
      ⊢ WP c (.op (.enqueueDma (wM.slice (Rect.unit (s := S4096x2048) off S256x2048.size inb) hst) (.here (sSlot k)) (.dma (wS k)) hsrc hdst hsem) kk) Q := by
  subst hoff
  unfold St
  iintro ⟨#HR, HO, HW, Hrest⟩
  ihave HW' := (str_issue m ρ c a b k hk ha hb hb') $$ HW
  icases HW' with ⟨⟨Hs, Hv, Hw, Hw'⟩, Hback⟩
  unfold strAny rowW
  icases Hs with ⟨%f, Hs⟩
  iapply (Transfers.wp_dmaLocal EC 𝒱₀ (c : Thread nD τ) none (src := wRow (src c (it a))) (dst := sSlot k) () Nw rfl Nw_pos (Finset.Subset.refl _)) $$ [Hs Hv Hw]
  · isplitl [Hw]; · iexact Hw
    isplitl [Hs] <;> iassumption
  iintro Hfl
  iapply h
  unfold St
  isplitr; · iexact HR
  isplitl [HO]; · iexact HO
  isplitr [Hrest]
  · iapply Hback
    unfold Fly
    isplitl [Hfl]
    · iapply (Transfers.Flight_mono EC (c : Thread nD τ) (D' := iprop(strFull m ρ c a k ∗ rowW m ρ c a)) ?_) $$ Hfl
      unfold strFull rowW
      iintro ⟨H1, H2⟩
      isplitl [H1]
      · iexists ((sSlot k).view.write (Elt F) f (ReadAs.same.apply ((wRow (src c (it a))).view.read (Elt F) (warr m ρ c))) Finset.univ)
        isplitr
        · ipureintro; exact View.read_write_univ _ _
        iexact H1
      iexact H2
    unfold rowW; iexact Hw'
  iexact Hrest

/-- Await the copy of item `b`. -/
theorem step_await (k : Fin 8) (hk : k.val = b % 8) (ha : b < a) (hb : a ≤ b + 8) (hb' : b < 16)
    {srcw : Memref sig .tc .hbm S256x2048 .f32} {hsrc hdst} {kk : PUnit → Prog (TpuEff nD τ sig (Elt F) Λ₀ .tc) α}
    (h : St m ρ K c nb ns nx (Str m ρ c a (b + 1)) B X S V G E ⊢ WP c (kk ⟨⟩) Q) :
    St m ρ K c nb ns nx (Str m ρ c a b) B X S V G E
      ⊢ WP c (.op (.waitDma2 (wS k) srcw (sSlot k) hsrc hdst) kk) Q := by
  unfold St
  iintro ⟨#HR, ⟨%Wt, HO⟩, HW, Hrest⟩
  ihave HW' := (str_await m ρ c a b k hk ha hb hb') $$ HW
  icases HW' with ⟨Hfl, Hback⟩
  unfold Fly
  icases Hfl with ⟨Hfl, Hw'⟩
  iapply (Transfers.wp_waitLocalO EC 𝒱₀ (c : Thread nD τ) none (dstw := sSlot k) () (N := Nw) rfl) $$ [Hfl HO]
  · isplitl [Hfl]; · iexact Hfl
    isplitl [HO]; · iexact HO
    iapply (mayWait_of c (.dma (wS k)) nb ns nx 0 (by dsimp only [lvOf]; rw [if_pos (by show 2 + k.val < 26; omega)])
      (fun _ => Nat.one_pos) (fun _ => Nat.two_pos) (by decide))
    iapply (recs_lev m ρ K); iexact HR
  iintro ⟨⟨Hs, Hw⟩, Hv, HO⟩
  iapply h
  unfold St
  isplitr; · iexact HR
  isplitl [HO]; · iexists _; iexact HO
  isplitr [Hrest]
  · iapply Hback
    unfold Full
    isplitl [Hs]; · iexact Hs
    isplitl [Hv]; · iexact Hv
    isplitl [Hw] <;> iassumption
  iexact Hrest

/-- Load the slot of item `b`, just awaited. -/
theorem step_loadW (k : Fin 8) (hk : k.val = b % 8) (ha : b < a) (hb : a ≤ b + 8) (hb' : b < 16)
    {hl} {kk : Vec F S1x256x2048 .f32 → Prog (TpuEff nD τ sig (Elt F) Λ₀ .tc) α}
    (h : St m ρ K c nb ns nx (Str m ρ c a (b + 1)) B X S V G E ⊢ WP c (kk (liftW (wblk m ρ c (src c (it b))))) Q) :
    St m ρ K c nb ns nx (Str m ρ c a (b + 1)) B X S V G E
      ⊢ WP c (.op (.load sM (sRect k).toLoadRect hl) kk) Q := by
  unfold St
  iintro ⟨#HR, HO, HW, Hrest⟩
  ihave HW' := (str_full m ρ c a b k hk ha hb hb') $$ HW
  icases HW' with ⟨Hf, Hback⟩
  unfold Full strFull
  icases Hf with ⟨⟨%f, %hf, Hs⟩, Hx⟩
  iapply (wp_load 𝒱₀ (c : Thread nD τ) none Set.univ (m := sM) (S := (sSlot k).view.set)
    (by rw [View.set_reshape, View.set_slice]; exact Finset.Subset.refl _)) $$ Hs
  iintro Hs
  rw [load_sSlot k f hf]
  iapply h
  unfold St
  isplitr; · iexact HR
  isplitl [HO]; · iexact HO
  isplitr [Hrest]
  · iapply Hback
    isplitl [Hs]; · (iexists f; isplitr; · (ipureintro; exact hf)); iexact Hs
    iexact Hx
  iexact Hrest

/-! ## The handshakes -/

/-- The entry signal to the `d`-th partner: it hands over the landing slot the partner will fill. -/
theorem step_sigBar (d : Fin 15) {p : Dev nD} (hp : p = peer c d) {z : ℤ} (hz : z = ((1 : ℕ) : ℤ))
    {kk : PUnit → Prog (TpuEff nD τ sig (Elt F) Λ₀ .tc) α}
    (h : St m ρ K c (d.val + 1) ns nx W (Bar c (d.val + 1)) X S V G E ⊢ WP c (kk ⟨⟩) Q) :
    St m ρ K c d.val ns nx W (Bar c d.val) X S V G E ⊢ WP c (.op (.semSignal ((p, .tc) : Thread nD τ) barS z) kk) Q := by
  subst hp hz
  unfold St Bar
  rw [bigSep_rest d]
  iintro ⟨#HR, ⟨%Wt, HO⟩, HW, ⟨⟨⟨Ht, Hs⟩, Hb⟩, Hpos, Hcr⟩, Hrest⟩
  iapply (Rounds.wp_signal 𝒱₀ ER (Rd m ρ) (c : Thread nD τ) none (dst := (peer c d : Thread nD τ)) (κ := K (barCell (peer c d)))
      (d := idx (peer c d) c) (by rw [duties_bar, idx_comm]; exact Finset.mem_erase.mpr ⟨neg_ne_zero _ (peer_ne_idx c d), Finset.mem_univ _⟩)
      (amount_bar m ρ (peer c d) _) () (debt c (d.val + 1) ns nx) (debt_bar c d ns nx)) $$ [HO Ht Hs]
  · isplitr; · iapply (recs_inv m ρ K (bar_mem (peer c d))); iexact HR
    isplitl [HO]; · iexact HO
    isplitl [Ht]; · iexact Ht
    isplitl [Hs]
    · iapply (Entails.of_eq (show slotAny c (idx c (peer c d)) = (Rd (F := F) m ρ).payload (barCell (peer c d)) 0 (idx (peer c d) c) by
        rw [payload_bar, src_idx, idx_comm c (peer c d)])); iexact Hs
    iapply (recs_reached m ρ K (bar_mem (peer c d))); iexact HR
  iintro HO
  iapply h
  unfold St Bar
  isplitr; · iexact HR
  isplitl [HO]; · iexists _; iexact HO
  isplitl [HW]; · iexact HW
  isplitr [Hrest]
  · isplitl [Hb]; · iexact Hb
    isplitl [Hpos] <;> iassumption
  iexact Hrest

/-- The exit signal to the `d`-th partner. -/
theorem step_sigExt (d : Fin 15) {p : Dev nD} (hp : p = peer c d) {z : ℤ} (hz : z = ((1 : ℕ) : ℤ))
    {kk : PUnit → Prog (TpuEff nD τ sig (Elt F) Λ₀ .tc) α}
    (h : St m ρ K c nb ns (d.val + 1) W B X S V G (Ext c (d.val + 1)) ⊢ WP c (kk ⟨⟩) Q) :
    St m ρ K c nb ns d.val W B X S V G (Ext c d.val) ⊢ WP c (.op (.semSignal ((p, .tc) : Thread nD τ) extS z) kk) Q := by
  subst hp hz
  unfold St Ext
  rw [bigSep_rest d]
  iintro ⟨#HR, ⟨%Wt, HO⟩, HW, HB, HX, HS, HV, HG, ⟨⟨Ht, Hb⟩, Hpos, Hcr⟩⟩
  iapply (Rounds.wp_signal 𝒱₀ ER (Rd m ρ) (c : Thread nD τ) none (dst := (peer c d : Thread nD τ)) (κ := K (extCell (peer c d)))
      (d := idx (peer c d) c) (by rw [duties_ext, idx_comm]; exact Finset.mem_erase.mpr ⟨neg_ne_zero _ (peer_ne_idx c d), Finset.mem_univ _⟩)
      (amount_ext m ρ (peer c d) _) () (debt c nb ns (d.val + 1)) (debt_ext c nb ns d)) $$ [HO Ht]
  · isplitr; · iapply (recs_inv m ρ K (ext_mem (peer c d))); iexact HR
    isplitl [HO]; · iexact HO
    isplitl [Ht]; · iexact Ht
    isplitr
    · iapply (Entails.of_eq (payload_ext m ρ (peer c d) (idx (peer c d) c)).symm); iempintro
    iapply (recs_reached m ρ K (ext_mem (peer c d))); iexact HR
  iintro HO
  iapply h
  unfold St Ext
  isplitr; · iexact HR
  isplitl [HO]; · iexists _; iexact HO
  isplitl [HW]; · iexact HW
  isplitl [HB]; · iexact HB
  isplitl [HX]; · iexact HX
  isplitl [HS]; · iexact HS
  isplitl [HV]; · iexact HV
  isplitl [HG]; · iexact HG
  isplitl [Hb]; · iexact Hb
  isplitl [Hpos] <;> iassumption

/-- The narrowed operand is the block kept and the fifteen blocks sent. -/
theorem Bf_rows : Bf m ρ c = iprop(rowFull m ρ c c ∗ bigSep Finset.univ fun j => rowFull m ρ c (tgt c j)) := by
  unfold Bf
  rw [Ring.pointsTo_blocks bSet bRow_disj bRow_cover, bigSep_univ_equiv (around c), bigSep_erase (Finset.mem_univ (0 : Fin 16)), bigSep_ord]
  show iprop(rowFull m ρ c (src c 0) ∗ _) = _
  rw [src_zero]; rfl

/-- The wait of the entry handshake: the fifteen slots to be filled arrive, and the operand is cut into its blocks. -/
theorem step_waitBar {z : ℤ} (hz : z = ((15 : ℕ) : ℤ)) {kk : PUnit → Prog (TpuEff nD τ sig (Elt F) Λ₀ .tc) α}
    (h : St m ρ K c 15 0 nx W (semVal (barCell c) 0) (Xs m ρ c) (Snd1 m ρ c 0) V G E ⊢ WP c (kk ⟨⟩) Q) :
    St m ρ K c 15 0 nx W (Bar c 15) iprop(Xs m ρ c ∗ Bf m ρ c) (Snd0 c) V G E ⊢ WP c (.op (.semWait barS z) kk) Q := by
  subst hz
  unfold St Bar Snd0
  iintro ⟨#HR, ⟨%Wt, HO⟩, HW, ⟨-, Hpos, Hcr⟩, ⟨HX, HB⟩, ⟨Htok, Hsp⟩, Hrest⟩
  iapply (Rounds.wp_wait_rest_token 𝒱₀ ER (Rd m ρ) (c : Thread nD τ) none (κ := K (barCell c))
      (wpE_semWait_eq 𝒱₀ (c : Thread nD τ) none Set.univ) (Set.mem_univ _) () (O := debt c 15 0 nx) (W := Wt) (R := 0) (m := 0) (T := ∅)
      (by rw [expect_bar])) $$ [Hcr HO Hpos]
  · isplitr; · iapply (recs_inv m ρ K (bar_mem c)); iexact HR
    isplitl [Hcr]; · iexact Hcr
    isplitl [HO]; · iexact HO
    isplitr
    · iapply (mayWait_of c (.reg barS) 15 0 nx 1 (by decide) (fun h => absurd h (lt_irrefl _)) (fun _ => Nat.lt_succ_self _) (by decide))
      iapply (recs_lev m ρ K); iexact HR
    iexact Hpos
  iintro ⟨HO, Hpos, -, Hpay⟩
  ihave Hp := (Entails.of_eq ((rest_bar m ρ c).trans (bigSep_ord fun s => slotAny (src c s) (neg s)))) $$ Hpay
  imod (Rounds.cell_close ER (Rd m ρ) (Set.mem_univ (K (barCell c))) (fun h => h) (R := 0 + 1) (duties_later m ρ (barCell c))) $$ [Hpos] with Hz
  · isplitr; · iapply (recs_inv m ρ K (bar_mem c)); iexact HR
    iexact Hpos
  ihave HB' := (Entails.of_eq (Bf_rows m ρ c)) $$ HB
  icases HB' with ⟨Hown, HB⟩
  iapply h
  unfold St Snd1
  isplitr; · iexact HR
  isplitl [HO]; · iexists _; iexact HO
  isplitl [HW]; · iexact HW
  isplitl [Hz]; · iexact Hz
  isplitl [HX]; · iexact HX
  isplitr [Hrest]
  · isplitl [Htok HB Hp]
    · rw [rest_zero, bigSep_sep', bigSep_sep']
      isplitl [Htok]; · iexact Htok
      isplitl [HB]; · iexact HB
      iexact Hp
    rw [done_zero, bigSep_empty]
    isplitr; · iempintro
    isplitl [Hsp] <;> iassumption
  iexact Hrest

/-- The wait of the exit handshake. -/
theorem step_waitExt {z : ℤ} (hz : z = ((15 : ℕ) : ℤ)) {kk : PUnit → Prog (TpuEff nD τ sig (Elt F) Λ₀ .tc) α}
    (h : St m ρ K c 15 15 15 W B X S V G (semVal (extCell c) 0) ⊢ WP c (kk ⟨⟩) Q) :
    St m ρ K c 15 15 15 W B X S V G (Ext c 15) ⊢ WP c (.op (.semWait extS z) kk) Q := by
  subst hz
  unfold St Ext
  iintro ⟨#HR, ⟨%Wt, HO⟩, HW, HB, HX, HS, HV, HG, ⟨-, Hpos, Hcr⟩⟩
  iapply (Rounds.wp_wait_rest_token 𝒱₀ ER (Rd m ρ) (c : Thread nD τ) none (κ := K (extCell c))
      (wpE_semWait_eq 𝒱₀ (c : Thread nD τ) none Set.univ) (Set.mem_univ _) () (O := debt c 15 15 15) (W := Wt) (R := 0) (m := 0) (T := ∅)
      (by rw [expect_ext])) $$ [Hcr HO Hpos]
  · isplitr; · iapply (recs_inv m ρ K (ext_mem c)); iexact HR
    isplitl [Hcr]; · iexact Hcr
    isplitl [HO]; · iexact HO
    isplitr
    · rw [debt_none, MayWait_zero]; iempintro
    iexact Hpos
  iintro ⟨HO, Hpos, -, -⟩
  imod (Rounds.cell_close ER (Rd m ρ) (Set.mem_univ (K (extCell c))) (fun h => h) (R := 0 + 1) (duties_later m ρ (extCell c))) $$ [Hpos] with Hz
  · isplitr; · iapply (recs_inv m ρ K (ext_mem c)); iexact HR
    iexact Hpos
  iapply h
  unfold St
  isplitr; · iexact HR
  isplitl [HO]; · iexists _; iexact HO
  isplitl [HW]; · iexact HW
  isplitl [HB]; · iexact HB
  isplitl [HX]; · iexact HX
  isplitl [HS]; · iexact HS
  isplitl [HV]; · iexact HV
  isplitl [HG] <;> iassumption

/-! ## Narrowing the left operand -/

theorem hz2 : (![0, 0] : Fin 2 → ℕ) = fun _ => 0 := funext fun a => by fin_cases a <;> rfl

theorem step_loadX {inb hl} {kk : Vec F S4096x256 .f32 → Prog (TpuEff nD τ sig (Elt F) Λ₀ .tc) α}
    (h : St m ρ K c nb ns nx W B iprop(Xs m ρ c ∗ Bs c) S V G E ⊢ WP c (kk (xstg m ρ c)) Q) :
    St m ρ K c nb ns nx W B iprop(Xs m ρ c ∗ Bs c) S V G E
      ⊢ WP c (.op (.load xM (Rect.unit (s := S4096x256) ![0, 0] S4096x256.size inb).toLoadRect hl) kk) Q := by
  unfold St Xs
  iintro ⟨#HR, HO, HW, HB, ⟨HX, Hb⟩, Hrest⟩
  iapply (wp_load 𝒱₀ (c : Thread nD τ) none Set.univ (m := xM) (Finset.subset_univ _)) $$ HX
  iintro HX
  rw [show (xM : Memref sig .tc .vmem S4096x256 .f32).view.readAt (Elt F) (Rect.unit (s := S4096x256) ![0, 0] S4096x256.size inb).toLoadRect (xstg m ρ c) = xstg m ρ c
    from Memref.readAt_unit_zero (Elt F) cc0_stg0_0 hz2 _ _]
  iapply h
  unfold St Xs
  isplitr; · iexact HR
  isplitl [HO]; · iexact HO
  isplitl [HW]; · iexact HW
  isplitl [HB]; · iexact HB
  isplitr [Hrest]
  · isplitl [HX] <;> iassumption
  iexact Hrest

theorem step_loadB {inb hl} {kk : Vec F S4096x256 .bf16 → Prog (TpuEff nD τ sig (Elt F) Λ₀ .tc) α}
    (h : ∀ v, St m ρ K c nb ns nx W B iprop(Xs m ρ c ∗ Bs c) S V G E ⊢ WP c (kk v) Q) :
    St m ρ K c nb ns nx W B iprop(Xs m ρ c ∗ Bs c) S V G E
      ⊢ WP c (.op (.load bM (Rect.unit (s := S4096x256) ![0, 0] S4096x256.size inb).toLoadRect hl) kk) Q := by
  unfold St Bs
  iintro ⟨#HR, HO, HW, HB, ⟨HX, ⟨%f, Hb⟩⟩, Hrest⟩
  iapply (wp_load 𝒱₀ (c : Thread nD τ) none Set.univ (m := bM) (Finset.subset_univ _)) $$ Hb
  iintro Hb
  iapply (h _)
  unfold St Bs
  isplitr; · iexact HR
  isplitl [HO]; · iexact HO
  isplitl [HW]; · iexact HW
  isplitl [HB]; · iexact HB
  isplitr [Hrest]
  · isplitl [HX]; · iexact HX
    iexists f; iexact Hb
  iexact Hrest

theorem step_storeB {inb hs hm} {kk : PUnit → Prog (TpuEff nD τ sig (Elt F) Λ₀ .tc) α}
    (h : St m ρ K c nb ns nx W B iprop(Xs m ρ c ∗ Bf m ρ c) S V G E ⊢ WP c (kk ⟨⟩) Q) :
    St m ρ K c nb ns nx W B iprop(Xs m ρ c ∗ Bs c) S V G E
      ⊢ WP c (.op (.store bM (Rect.unit (s := S4096x256) ![0, 0] S4096x256.size inb) (k0_pay1 (xstg m ρ c)) Finset.univ hs hm) kk) Q := by
  unfold St Bs
  iintro ⟨#HR, HO, HW, HB, ⟨HX, ⟨%f, Hb⟩⟩, Hrest⟩
  iapply (wp_store 𝒱₀ (c : Thread nD τ) none Set.univ (m := bM) (r := Rect.unit (s := S4096x256) ![0, 0] S4096x256.size inb) (Mk := Finset.univ)
    (Finset.subset_univ _)) $$ Hb
  iintro Hb
  rw [show ((bM : Memref sig .tc .vmem S4096x256 .bf16).access (Rect.unit (s := S4096x256) ![0, 0] S4096x256.size inb) : View sig .tc _ _ _).write (Elt F) f
      (k0_pay1 (xstg m ρ c)) Finset.univ = k0_pay1 (xstg m ρ c) from Memref.write_access_unit_zero_univ (Elt F) cc0_scratch0 hz2 _ _ _]
  iapply h
  unfold St Bf xbf
  isplitr; · iexact HR
  isplitl [HO]; · iexact HO
  isplitl [HW]; · iexact HW
  isplitl [HB]; · iexact HB
  isplitr [Hrest]
  · isplitl [HX] <;> iassumption
  iexact Hrest

/-! ## The sends -/

/-- Send `j`, its device, block, slot and semaphores as the program names them. -/
theorem step_send (j : Fin 15) {p : Dev nD} (hp : p = tgt c j) {off : Fin 2 → ℕ} (hoff : off = rowAt (tgt c j))
    {sl : Fin 16} (hsl : sl = tslot j) {inb hst hsc hsrc hdst hsem} {kk : PUnit → Prog (TpuEff nD τ sig (Elt F) Λ₀ .tc) α}
    (h : St m ρ K c nb (j.val + 1) nx W B X (Snd1 m ρ c (j.val + 1)) V G E ⊢ WP c (kk ⟨⟩) Q) :
    St m ρ K c nb j.val nx W B X (Snd1 m ρ c j.val) V G E
      ⊢ WP c (.op (.enqueueDma (bM.slice (Rect.unit (s := S4096x256) off S256x256.size inb) hst)
          (.remote (Dev.tc p) (gSlot sl) (.dma (sendS sl)) hsc) (.dma (recvS sl)) hsrc hdst hsem) kk) Q := by
  subst hp hoff hsl
  unfold St Snd1 sendTok
  rw [bigSep_rest j]
  unfold rowFull slotAny
  iintro ⟨#HR, ⟨%Wt, HO⟩, HW, HB, HX, ⟨⟨⟨⟨Ht1, Ht2⟩, Hrow, ⟨%fd, Hslot⟩⟩, Hmore⟩, Hdone, Hpos, Hown⟩, Hrest⟩
  iapply (Rounds.wp_send_pointsTo 𝒱₀ ER (Rd m ρ) (c : Thread nD τ) none (c' := (tgt c j : Thread nD τ)) (src := bRow (tgt c j)) (dst := gSlot (tslot j))
      (κ₁ := K (sendCell c (tslot j))) (κ₂ := K (recvCell (tgt c j) (tslot j)))
      (r₁ := 0) (r₂ := 0) (d₁ := 0) (d₂ := 0) (fd := fd) (fs := xbf m ρ c)
      (by rw [duties_send m ρ c _ (tslot_ne_zero j)]; exact Finset.mem_singleton_self _)
      (by rw [duties_recv m ρ (tgt c j) _ (tslot_ne_zero j)]; exact Finset.mem_singleton_self _)
      () () N rfl (amount_send m ρ c (tslot j) 0) (amount_recv m ρ (tgt c j) (tslot j) 0) (debt c nb (j.val + 1) nx) (debt_send c nb j nx)
      (by rw [payload_send]; unfold tslot; rw [neg_neg]; exact rowFull_any m ρ c (tgt c j))
      (by
        rw [payload_recv]; unfold slotFull
        iintro H
        iexists ((gSlot (tslot j)).view.write (Elt F) fd ((bRow (tgt c j)).view.read (Elt F) (xbf m ρ c)) Finset.univ)
        isplitr
        · ipureintro
          refine (View.read_write_univ _ _).trans ?_
          unfold xblk tslot tgt; rw [src_neg]
        iexact H)) $$ [HO Ht1 Ht2 Hrow Hslot]
  · isplitr; · iapply (recs_inv m ρ K (send_mem c _ (tslot_ne_zero j))); iexact HR
    isplitr; · iapply (recs_inv m ρ K (recv_mem (tgt c j) _ (tslot_ne_zero j))); iexact HR
    isplitl [Hrow]; · iexact Hrow
    isplitl [Hslot]; · iexact Hslot
    isplitl [HO]; · iexact HO
    isplitl [Ht1]; · iexact Ht1
    isplitr; · iapply (recs_reached m ρ K (send_mem c _ (tslot_ne_zero j))); iexact HR
    isplitl [Ht2]; · iexact Ht2
    iapply (recs_reached m ρ K (recv_mem (tgt c j) _ (tslot_ne_zero j))); iexact HR
  iintro ⟨Hcr, HO⟩
  iapply h
  unfold St Snd1 sendTok rowFull slotAny
  rw [bigSep_done j]
  isplitr; · iexact HR
  isplitl [HO]; · iexists _; iexact HO
  isplitl [HW]; · iexact HW
  isplitl [HB]; · iexact HB
  isplitl [HX]; · iexact HX
  isplitr [Hrest]
  · isplitl [Hmore]; · iexact Hmore
    isplitl [Hcr Hdone]
    · isplitl [Hcr]; · (unfold sendCred; iexact Hcr)
      iexact Hdone
    isplitl [Hpos] <;> iassumption
  iexact Hrest

/-- All sends made is none awaited. -/
theorem Snd_turn : Snd1 m ρ c 15 ⊢ Snd2 m ρ c 0 := by
  unfold Snd1 Snd2
  rw [rest_all, rest_zero, done_zero, done_all, bigSep_empty, bigSep_empty, bigSep_sep']
  iintro ⟨-, Hc, Hp, Ho⟩
  isplitl [Hc Hp]; · (isplitl [Hc] <;> iassumption)
  isplitr; · iempintro
  iexact Ho

/-- Load the block kept, all sends made. -/
theorem step_loadOwn {off : Fin 2 → ℕ} (hoff : off = rowAt c) {inb hl} {kk : Vec F S256x256 .bf16 → Prog (TpuEff nD τ sig (Elt F) Λ₀ .tc) α}
    (h : St m ρ K c nb ns nx W B X (Snd2 m ρ c 0) V G E ⊢ WP c (kk (xblk m ρ c c)) Q) :
    St m ρ K c nb ns nx W B X (Snd1 m ρ c 15) V G E
      ⊢ WP c (.op (.load bM (Rect.unit (s := S4096x256) off S256x256.size inb).toLoadRect hl) kk) Q := by
  subst hoff
  unfold St
  iintro ⟨#HR, HO, HW, HB, HX, HS, Hrest⟩
  ihave HS' := (Snd_turn m ρ c) $$ HS
  unfold Snd2 rowFull
  icases HS' with ⟨H1, H2, Hown⟩
  iapply (wp_load 𝒱₀ (c : Thread nD τ) none Set.univ (m := bM) (S := (bRow c).view.set)
    (by rw [View.set_slice]; exact Finset.Subset.refl _)) $$ Hown
  iintro Hown
  iapply h
  unfold St Snd2 rowFull
  isplitr; · iexact HR
  isplitl [HO]; · iexact HO
  isplitl [HW]; · iexact HW
  isplitl [HB]; · iexact HB
  isplitl [HX]; · iexact HX
  isplitr [Hrest]
  · isplitl [H1]; · iexact H1
    isplitl [H2] <;> iassumption
  iexact Hrest

/-- The wait for send `j`: its block is held again. -/
theorem step_waitSend (j : Fin 15) {sl : Fin 16} (hsl : sl = tslot j) {srcw : Memref sig .tc .vmem S256x256 .bf16} {off : Fin 2 → ℕ} {inb hst hsrc hdst}
    {kk : PUnit → Prog (TpuEff nD τ sig (Elt F) Λ₀ .tc) α}
    (h : St m ρ K c nb ns nx W B X (Snd2 m ρ c (j.val + 1)) V G E ⊢ WP c (kk ⟨⟩) Q) :
    St m ρ K c nb ns nx W B X (Snd2 m ρ c j.val) V G E
      ⊢ WP c (.op (.waitDma2 (sendS sl) srcw (bM.slice (Rect.unit (s := S4096x256) off S256x256.size inb) hst) hsrc hdst) kk) Q := by
  subst hsl
  unfold St Snd2 sendCred sendPos
  rw [bigSep_rest j]
  iintro ⟨#HR, ⟨%Wt, HO⟩, HW, HB, HX, ⟨⟨⟨Hcr, Hpos⟩, Hmore⟩, Hdone, Hown⟩, Hrest⟩
  iapply (Rounds.wp_wait_rest_token 𝒱₀ ER (Rd m ρ) (c : Thread nD τ) none (κ := K (sendCell c (tslot j)))
      (wpE_waitDma2_eq 𝒱₀ (c : Thread nD τ) none Set.univ) (Set.mem_univ _) () (O := debt c nb ns nx) (W := Wt) (R := 0) (m := 0) (T := ∅)
      (by rw [Nat.zero_add, expect_send m ρ c _ (tslot_ne_zero j)]; rfl)) $$ [Hcr HO Hpos]
  · isplitr; · iapply (recs_inv m ρ K (send_mem c _ (tslot_ne_zero j))); iexact HR
    isplitl [Hcr]; · iexact Hcr
    isplitl [HO]; · iexact HO
    isplitr
    · iapply (mayWait_of c (.dma (sendS (tslot j))) nb ns nx 0 (by dsimp only [lvOf]; rw [if_pos (by show 10 + (tslot j).val < 26; omega)])
        (fun _ => Nat.one_pos) (fun _ => Nat.two_pos) (by decide))
      iapply (recs_lev m ρ K); iexact HR
    iexact Hpos
  iintro ⟨HO, Hpos, -, Hpay⟩
  ihave Hrow := (Entails.of_eq ((rest_send m ρ c _ (tslot_ne_zero j)).trans (by unfold tslot; rw [neg_neg]; rfl : _ = rowAny c (tgt c j)))) $$ Hpay
  imod (Rounds.cell_close ER (Rd m ρ) (Set.mem_univ (K (sendCell c (tslot j)))) (fun h => h) (R := 0 + 1) (duties_later m ρ (sendCell c (tslot j)))) $$ [Hpos] with Hz
  · isplitr; · iapply (recs_inv m ρ K (send_mem c _ (tslot_ne_zero j))); iexact HR
    iexact Hpos
  iapply h
  unfold St Snd2 sendCred sendPos
  rw [bigSep_done j]
  isplitr; · iexact HR
  isplitl [HO]; · iexists _; iexact HO
  isplitl [HW]; · iexact HW
  isplitl [HB]; · iexact HB
  isplitl [HX]; · iexact HX
  isplitr [Hrest]
  · isplitl [Hmore]; · iexact Hmore
    isplitl [Hz Hrow Hdone]
    · isplitl [Hz Hrow]
      · unfold sendEnd; (isplitl [Hz] <;> iassumption)
      iexact Hdone
    iexact Hown
  iexact Hrest

/-! ## The arrivals -/

/-- The wait for arrival `j`. -/
theorem step_waitRecv (j : Fin 15) {sl : Fin 16} (hsl : sl = rslot j) {srcw : Memref sig .tc .vmem S256x256 .bf16} {hsrc hdst}
    {kk : PUnit → Prog (TpuEff nD τ sig (Elt F) Λ₀ .tc) α}
    (h : St m ρ K c 15 15 nx W B X S (Rcv m ρ c (j.val + 1)) G E ⊢ WP c (kk ⟨⟩) Q) :
    St m ρ K c 15 15 nx W B X S (Rcv m ρ c j.val) G E
      ⊢ WP c (.op (.waitDma2 (recvS sl) srcw (gSlot sl) hsrc hdst) kk) Q := by
  subst hsl
  unfold St Rcv
  rw [bigSep_rest j]
  iintro ⟨#HR, ⟨%Wt, HO⟩, HW, HB, HX, HS, ⟨⟨⟨Hpos, Hcr⟩, Hmore⟩, Hdone⟩, Hrest⟩
  iapply (Rounds.wp_wait_rest_token 𝒱₀ ER (Rd m ρ) (c : Thread nD τ) none (κ := K (recvCell c (rslot j)))
      (wpE_waitDma2_eq 𝒱₀ (c : Thread nD τ) none Set.univ) (Set.mem_univ _) () (O := debt c 15 15 nx) (W := Wt) (R := 0) (m := 0) (T := ∅)
      (by rw [Nat.zero_add, expect_recv m ρ c _ (rslot_ne_zero j)])) $$ [Hcr HO Hpos]
  · isplitr; · iapply (recs_inv m ρ K (recv_mem c _ (rslot_ne_zero j))); iexact HR
    isplitl [Hcr]; · iexact Hcr
    isplitl [HO]; · iexact HO
    isplitr
    · iapply (mayWait_of c (.dma (recvS (rslot j))) 15 15 nx 2
        (by dsimp only [lvOf]; split <;> omega) (fun h => absurd h (lt_irrefl _)) (fun h => absurd h (lt_irrefl _)) (by decide))
      iapply (recs_lev m ρ K); iexact HR
    iexact Hpos
  iintro ⟨HO, Hpos, -, Hpay⟩
  ihave Hslot := (Entails.of_eq (rest_recv m ρ c _ (rslot_ne_zero j))) $$ Hpay
  imod (Rounds.cell_close ER (Rd m ρ) (Set.mem_univ (K (recvCell c (rslot j)))) (fun h => h) (R := 0 + 1) (duties_later m ρ (recvCell c (rslot j)))) $$ [Hpos] with Hz
  · isplitr; · iapply (recs_inv m ρ K (recv_mem c _ (rslot_ne_zero j))); iexact HR
    iexact Hpos
  iapply h
  unfold St Rcv
  rw [bigSep_done j]
  isplitr; · iexact HR
  isplitl [HO]; · iexists _; iexact HO
  isplitl [HW]; · iexact HW
  isplitl [HB]; · iexact HB
  isplitl [HX]; · iexact HX
  isplitl [HS]; · iexact HS
  isplitr [Hrest]
  · isplitl [Hmore]; · iexact Hmore
    isplitl [Hz Hslot]
    · isplitl [Hz] <;> iassumption
    iexact Hdone
  iexact Hrest

/-- Load the slot of arrival `j`, just awaited. -/
theorem step_loadG (j : Fin 15) {hl} {kk : Vec F S1x256x256 .bf16 → Prog (TpuEff nD τ sig (Elt F) Λ₀ .tc) α}
    (h : St m ρ K c nb ns nx W B X S (Rcv m ρ c (j.val + 1)) G E ⊢ WP c (kk (liftG (xblk m ρ (src c (rslot j)) c))) Q) :
    St m ρ K c nb ns nx W B X S (Rcv m ρ c (j.val + 1)) G E
      ⊢ WP c (.op (.load gM (gRect (rslot j)).toLoadRect hl) kk) Q := by
  unfold St Rcv
  rw [bigSep_done j]
  iintro ⟨#HR, HO, HW, HB, HX, HS, ⟨Hmore, ⟨Hz, Hslot⟩, Hdone⟩, Hrest⟩
  unfold slotFull
  icases Hslot with ⟨%f, %hf, Hs⟩
  iapply (wp_load 𝒱₀ (c : Thread nD τ) none Set.univ (m := gM) (S := (gSlot (rslot j)).view.set)
    (by rw [View.set_reshape, View.set_slice]; exact Finset.Subset.refl _)) $$ Hs
  iintro Hs
  rw [load_gSlot (rslot j) f hf]
  iapply h
  unfold St Rcv
  rw [bigSep_done j]
  unfold slotFull
  isplitr; · iexact HR
  isplitl [HO]; · iexact HO
  isplitl [HW]; · iexact HW
  isplitl [HB]; · iexact HB
  isplitl [HX]; · iexact HX
  isplitl [HS]; · iexact HS
  isplitr [Hrest]
  · isplitl [Hmore]; · iexact Hmore
    isplitr [Hdone]
    · isplitl [Hz]; · iexact Hz
      iexists f; isplitr; · (ipureintro; exact hf)
      iexact Hs
    iexact Hdone
  iexact Hrest

/-! ## The result's buffer -/

abbrev oRect (inb : ∀ a, (![0, 0] : Fin 2 → ℕ) a + S256x2048.size a ≤ S256x2048.size a) : Rect S256x2048 :=
  Rect.unit (s := S256x2048) ![0, 0] S256x2048.size inb

/-- Whatever the buffer holds, a load of it leaves it so; -/
theorem step_loadOut0 {inb hl} {kk : Vec F S256x2048 .f32 → Prog (TpuEff nD τ sig (Elt F) Λ₀ .tc) α}
    (h : ∀ v, St m ρ K c nb ns nx W B X S V (Out0 c) E ⊢ WP c (kk v) Q) :
    St m ρ K c nb ns nx W B X S V (Out0 c) E ⊢ WP c (.op (.load oM (oRect inb).toLoadRect hl) kk) Q := by
  unfold St Out0
  iintro ⟨#HR, HO, HW, HB, HX, HS, HV, ⟨%f, HG⟩, HE⟩
  iapply (wp_load 𝒱₀ (c : Thread nD τ) none Set.univ (m := oM) (Finset.subset_univ _)) $$ HG
  iintro HG
  iapply (h _)
  unfold St Out0
  isplitr; · iexact HR
  isplitl [HO]; · iexact HO
  isplitl [HW]; · iexact HW
  isplitl [HB]; · iexact HB
  isplitl [HX]; · iexact HX
  isplitl [HS]; · iexact HS
  isplitl [HV]; · iexact HV
  isplitl [HG]; · (iexists f; iexact HG)
  iexact HE

/-- a load of it once index `n` is in reads what has been accumulated; -/
theorem step_loadOut {inb hl} {kk : Vec F S256x2048 .f32 → Prog (TpuEff nD τ sig (Elt F) Λ₀ .tc) α}
    (h : St m ρ K c nb ns nx W B X S V (Out m ρ c n) E ⊢ WP c (kk (acc m ρ c n)) Q) :
    St m ρ K c nb ns nx W B X S V (Out m ρ c n) E ⊢ WP c (.op (.load oM (oRect inb).toLoadRect hl) kk) Q := by
  unfold St Out
  iintro ⟨#HR, HO, HW, HB, HX, HS, HV, HG, HE⟩
  iapply (wp_load 𝒱₀ (c : Thread nD τ) none Set.univ (m := oM) (Finset.subset_univ _)) $$ HG
  iintro HG
  rw [show (oM : Memref sig .tc .vmem S256x2048 .f32).view.readAt (Elt F) (oRect inb).toLoadRect (acc m ρ c n) = acc m ρ c n
    from Memref.readAt_unit_zero (Elt F) cc0_stg1_0 hz2 _ _]
  iapply h
  unfold St Out
  isplitr; · iexact HR
  isplitl [HO]; · iexact HO
  isplitl [HW]; · iexact HW
  isplitl [HB]; · iexact HB
  isplitl [HX]; · iexact HX
  isplitl [HS]; · iexact HS
  isplitl [HV]; · iexact HV
  isplitl [HG] <;> iassumption

/-- and a store makes it hold what is stored. -/
theorem step_storeOut {w : Vec F S256x2048 .f32} (hw : w = acc m ρ c n) (hG : G ⊢ Out0 c) {inb hs hm}
    {kk : PUnit → Prog (TpuEff nD τ sig (Elt F) Λ₀ .tc) α}
    (h : St m ρ K c nb ns nx W B X S V (Out m ρ c n) E ⊢ WP c (kk ⟨⟩) Q) :
    St m ρ K c nb ns nx W B X S V G E ⊢ WP c (.op (.store oM (oRect inb) w Finset.univ hs hm) kk) Q := by
  subst hw
  unfold St
  iintro ⟨#HR, HO, HW, HB, HX, HS, HV, HG, HE⟩
  ihave HG' := hG $$ HG
  unfold Out0
  icases HG' with ⟨%f, HG⟩
  iapply (wp_store 𝒱₀ (c : Thread nD τ) none Set.univ (m := oM) (r := oRect inb) (Mk := Finset.univ) (Finset.subset_univ _)) $$ HG
  iintro HG
  rw [show ((oM : Memref sig .tc .vmem S256x2048 .f32).access (oRect inb) : View sig .tc _ _ _).write (Elt F) f (acc m ρ c n) Finset.univ
    = acc m ρ c n from Memref.write_access_unit_zero_univ (Elt F) cc0_stg1_0 hz2 _ _ _]
  iapply h
  unfold St Out
  isplitr; · iexact HR
  isplitl [HO]; · iexact HO
  isplitl [HW]; · iexact HW
  isplitl [HB]; · iexact HB
  isplitl [HX]; · iexact HX
  isplitl [HS]; · iexact HS
  isplitl [HV]; · iexact HV
  isplitl [HG] <;> iassumption

theorem Out_any : Out m ρ c n ⊢ Out0 c := by
  unfold Out Out0; iintro H; iexists _; iexact H

end Cert.Exchange

end
-- ==== Proof.Exchange.lean ====
/-
# The body up to the last send

The stream's first seven copies, the handshake at entry, the narrowing, the fifteen sends.
-/
module

public import proofs.«01_k».proof.Proof.Steps

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The devices the program addresses, and the rows it reads -/

/-- The devices of the entry signals, of the sends and of the exit signals, as computed. -/
def barDev (c : Dev nD) : Fin 15 → ℕ :=
  ![k0_dev1 c, k0_dev2 c, k0_dev3 c, k0_dev4 c, k0_dev5 c, k0_dev6 c, k0_dev7 c, k0_dev8 c, k0_dev9 c, k0_dev10 c, k0_dev11 c,
    k0_dev12 c, k0_dev13 c, k0_dev14 c, k0_dev15 c]
def sendDev (c : Dev nD) : Fin 15 → ℕ :=
  ![k0_dev16 c, k0_dev17 c, k0_dev18 c, k0_dev19 c, k0_dev20 c, k0_dev21 c, k0_dev22 c, k0_dev23 c, k0_dev24 c, k0_dev25 c, k0_dev26 c,
    k0_dev27 c, k0_dev28 c, k0_dev29 c, k0_dev30 c]
def extDev (c : Dev nD) : Fin 15 → ℕ :=
  ![k0_dev31 c, k0_dev32 c, k0_dev33 c, k0_dev34 c, k0_dev35 c, k0_dev36 c, k0_dev37 c, k0_dev38 c, k0_dev39 c, k0_dev40 c, k0_dev41 c,
    k0_dev42 c, k0_dev43 c, k0_dev44 c, k0_dev45 c]

theorem barDev_eq : ∀ (c : Dev nD) (d : Fin 15), barDev c d = (peer c d).val := by decide +kernel
theorem sendDev_eq : ∀ (c : Dev nD) (j : Fin 15), sendDev c j = (tgt c j).val := by decide +kernel
theorem extDev_eq : ∀ (c : Dev nD) (d : Fin 15), extDev c d = (peer c d).val := by decide +kernel

theorem off4_row : ∀ (c : Dev nD) (r₁ r₂ : Fin 4),
    k0_off4 c (BitVec.ofNat 32 r₁.val) (BitVec.ofNat 32 r₂.val) = rowAt (src c ⟨4 * r₁.val + r₂.val, by omega⟩) := by decide +kernel

/-- A part of the body, at the buffers and semaphores of the launch. -/
abbrev here {β : Type 1} (f : (arg0 : Memref sig .tc .vmem S4096x256 .f32) → arg0.IsWhole → (arg1 : Memref sig .tc .hbm S4096x2048 .f32) → arg1.IsWhole →
    (arg2 : Memref sig .tc .vmem S256x2048 .f32) → arg2.IsWhole → (arg3 : Memref sig .tc .vmem S4096x256 .bf16) → arg3.IsWhole →
    (arg4 : Memref sig .tc .vmem S16x256x256 .bf16) → arg4.IsWhole → (arg5 : Memref sig .tc .vmem S8x256x2048 .f32) → arg5.IsWhole →
    DmaSems sig S8 → DmaSems sig S16 → DmaSems sig S16 → Sems sig S_ → β) : β :=
  f xM (Memref.isWhole_whole _) wM (Memref.isWhole_whole _) oM (Memref.isWhole_whole _) bM (Memref.isWhole_whole _)
    gM (Memref.isWhole_whole _) sM (Memref.isWhole_whole _) cc0_scratch3 cc0_scratch4 cc0_scratch5 cc0_scoped0

variable (m : (ℓ : Loc nD τ sig) → Buf (Elt F) ℓ) (ρ : Dev nD → PrngReg) (K : GSem nD τ sig → ℕ) (c : Dev nD)
variable {α : Type} {Q : α → sProp (MT nD τ sig Unit (Elt F) ℕ UU ℕ)}

/-- The state before the entry wait: `a` copies of the stream issued, `nb` entry signals sent. -/
abbrev Sa (a nb : ℕ) (X : sProp (MT nD τ sig Unit (Elt F) ℕ UU ℕ)) : sProp (MT nD τ sig Unit (Elt F) ℕ UU ℕ) :=
  St m ρ K c nb 0 0 (Str m ρ c a 0) (Bar c nb) X (Snd0 c) (Rcv m ρ c 0) (Out0 c) (Ext c 0)
/-- The state with `ns` sends made. -/
abbrev Sb (ns : ℕ) : sProp (MT nD τ sig Unit (Elt F) ℕ UU ℕ) :=
  St m ρ K c 15 ns 0 (Str m ρ c 7 0) (semVal (barCell c) 0) (Xs m ρ c) (Snd1 m ρ c ns) (Rcv m ρ c 0) (Out0 c) (Ext c 0)

theorem body_1 {kk : (Σ' (d0 : Dev nD) (v2 : BitVec 32) (v3 : BitVec 32) (v4 : BitVec 32) (v8 : BitVec 32) (v12 : BitVec 32) (v16 : BitVec 32) (v22 : BitVec 32) (v28 : BitVec 32) (v31 : BitVec 32), BitVec 32)
      → Prog (TpuEff nD τ sig (Elt F) Λ₀ .tc) α} {P : sProp 𝕄}
    (h : ∀ v2 v3 v4 v8 v12 v16 v22 v28 v31 x, P ⊢ WP c (kk ⟨c, v2, v3, v4, v8, v12, v16, v22, v28, v31, x⟩) Q) :
    P ⊢ WP c (here (k0_part1 (F := F)) >>= kk) Q := by
  rw [k0_part1_eq_skeleton]; unfold k0_part1_skel
  simp only [here, Prog.lift, Prog.bind_op, Prog.bind_ret, Prog.pure_eq_ret, wp_deviceId]
  exact h _ _ _ _ _ _ _ _ _ _

theorem body_2 (v3 v4 v31 x : BitVec 32) {kk : (Σ' (v34 : BitVec 32) (v40 : BitVec 32) (v46 : BitVec 32) (v52 : BitVec 32) (v58 : BitVec 32) (v64 : BitVec 32), BitVec 32)
      → Prog (TpuEff nD τ sig (Elt F) Λ₀ .tc) α} {P : sProp 𝕄}
    (h : ∀ v34 v40 v46 v52 v58 v64 y, P ⊢ WP c (kk ⟨v34, v40, v46, v52, v58, v64, y⟩) Q) :
    P ⊢ WP c (here (k0_part2 (F := F)) v3 v4 v31 x >>= kk) Q := by
  rw [k0_part2_eq_skeleton]; unfold k0_part2_skel
  simp only [here, Prog.lift, Prog.bind_op, Prog.bind_ret, Prog.pure_eq_ret]
  exact h _ _ _ _ _ _ _

theorem body_3 (v2 v3 v4 v8 x : BitVec 32) {kk : (Σ' (v70 : BitVec 32) (v76 : BitVec 32) (v82 : BitVec 32), BitVec 32) → Prog (TpuEff nD τ sig (Elt F) Λ₀ .tc) α}
    {X : sProp 𝕄} (h : ∀ v70 v76 v82 v88, Sa m ρ K c 1 0 X ⊢ WP c (kk ⟨v70, v76, v82, v88⟩) Q) :
    Sa m ρ K c 0 0 X ⊢ WP c (here (k0_part3 (F := F)) c v2 v3 v4 v8 x >>= kk) Q := by
  rw [k0_part3_eq_skeleton]; unfold k0_part3_skel
  simp only [here, Prog.lift, Prog.bind_op, Prog.bind_ret, Prog.pure_eq_ret]
  refine step_issue m ρ K c (a := 0) 0 rfl (by decide) (by decide) (by decide) (off1_row c) ?_
  exact h _ _ _ _

theorem body_4 (v12 v16 v22 v28 : BitVec 32) {kk : PUnit → Prog (TpuEff nD τ sig (Elt F) Λ₀ .tc) α} {X : sProp 𝕄}
    (h : Sa m ρ K c 5 0 X ⊢ WP c (kk ⟨⟩) Q) :
    Sa m ρ K c 1 0 X ⊢ WP c (here (k0_part4 (F := F)) c v12 v16 v22 v28 >>= kk) Q := by
  rw [k0_part4_eq_skeleton]; unfold k0_part4_skel
  simp only [here, Prog.lift, Prog.bind_op, Prog.bind_ret, Prog.pure_eq_ret]
  refine step_issue m ρ K c (a := 1) 1 rfl (by decide) (by decide) (by decide) (off2_row c 0) ?_
  refine step_issue m ρ K c (a := 2) 2 rfl (by decide) (by decide) (by decide) (off2_row c 1) ?_
  refine step_issue m ρ K c (a := 3) 3 rfl (by decide) (by decide) (by decide) (off2_row c 2) ?_
  refine step_issue m ρ K c (a := 4) 4 rfl (by decide) (by decide) (by decide) (off3_row c 0 0) ?_
  exact h

theorem body_5 (v2 v34 : BitVec 32) {kk : (Σ' (v131 : Sems sig S_), BitVec 32) → Prog (TpuEff nD τ sig (Elt F) Λ₀ .tc) α} {X : sProp 𝕄}
    (h : ∀ x, Sa m ρ K c 7 4 X ⊢ WP c (kk ⟨SemArray.scalar (sig.barrier 0 rfl), x⟩) Q) :
    Sa m ρ K c 5 0 X ⊢ WP c (here (k0_part5 (F := F)) c v2 v34 >>= kk) Q := by
  rw [k0_part5_eq_skeleton]; unfold k0_part5_skel
  simp only [here, semSignalWord, Prog.lift, Prog.bind_op, Prog.bind_ret, Prog.pure_eq_ret]
  refine step_issue m ρ K c (a := 5) 5 rfl (by decide) (by decide) (by decide) (off3_row c 0 1) ?_
  refine step_issue m ρ K c (a := 6) 6 rfl (by decide) (by decide) (by decide) (off3_row c 0 2) ?_
  refine step_sigBar m ρ K c 0 (Fin.ext (barDev_eq c 0)) (by decide) ?_
  refine step_sigBar m ρ K c 1 (Fin.ext (barDev_eq c 1)) (by decide) ?_
  refine step_sigBar m ρ K c 2 (Fin.ext (barDev_eq c 2)) (by decide) ?_
  refine step_sigBar m ρ K c 3 (Fin.ext (barDev_eq c 3)) (by decide) ?_
  exact h _

theorem body_6 (v2 x : BitVec 32) {kk : BitVec 32 → Prog (TpuEff nD τ sig (Elt F) Λ₀ .tc) α} {X : sProp 𝕄}
    (h : ∀ y, Sa m ρ K c 7 10 X ⊢ WP c (kk y) Q) :
    Sa m ρ K c 7 4 X ⊢ WP c (here (k0_part6 (F := F)) c v2 (SemArray.scalar (sig.barrier 0 rfl)) x >>= kk) Q := by
  rw [k0_part6_eq_skeleton]; unfold k0_part6_skel
  simp only [here, semSignalWord, Prog.lift, Prog.bind_op, Prog.bind_ret, Prog.pure_eq_ret]
  refine step_sigBar m ρ K c 4 (Fin.ext (barDev_eq c 4)) (by decide) ?_
  refine step_sigBar m ρ K c 5 (Fin.ext (barDev_eq c 5)) (by decide) ?_
  refine step_sigBar m ρ K c 6 (Fin.ext (barDev_eq c 6)) (by decide) ?_
  refine step_sigBar m ρ K c 7 (Fin.ext (barDev_eq c 7)) (by decide) ?_
  refine step_sigBar m ρ K c 8 (Fin.ext (barDev_eq c 8)) (by decide) ?_
  refine step_sigBar m ρ K c 9 (Fin.ext (barDev_eq c 9)) (by decide) ?_
  exact h _

/-- The last entry signals, the narrowing of the left operand, the entry wait. -/
theorem body_7 (v2 x : BitVec 32) {kk : BitVec 32 → Prog (TpuEff nD τ sig (Elt F) Λ₀ .tc) α}
    (h : ∀ y, Sb m ρ K c 0 ⊢ WP c (kk y) Q) :
    Sa m ρ K c 7 10 iprop(Xs m ρ c ∗ Bs c) ⊢ WP c (here (k0_part7 (F := F)) c v2 (SemArray.scalar (sig.barrier 0 rfl)) x >>= kk) Q := by
  rw [k0_part7_eq_skeleton]; unfold k0_part7_skel
  simp only [here, semSignalWord, semWaitWord, Prog.lift, Prog.bind_op, Prog.bind_ret, Prog.pure_eq_ret]
  refine step_sigBar m ρ K c 10 (Fin.ext (barDev_eq c 10)) (by decide) ?_
  refine step_sigBar m ρ K c 11 (Fin.ext (barDev_eq c 11)) (by decide) ?_
  refine step_sigBar m ρ K c 12 (Fin.ext (barDev_eq c 12)) (by decide) ?_
  refine step_sigBar m ρ K c 13 (Fin.ext (barDev_eq c 13)) (by decide) ?_
  refine step_sigBar m ρ K c 14 (Fin.ext (barDev_eq c 14)) (by decide) ?_
  refine step_loadX m ρ K c ?_
  refine step_loadB m ρ K c fun v => ?_
  refine step_storeB m ρ K c ?_
  refine step_waitBar m ρ K c (by decide) ?_
  exact h _

theorem body_8 (v3 v4 x : BitVec 32) {kk : PUnit → Prog (TpuEff nD τ sig (Elt F) Λ₀ .tc) α} (h : Sb m ρ K c 1 ⊢ WP c (kk ⟨⟩) Q) :
    Sb m ρ K c 0 ⊢ WP c (here (k0_part8 (F := F)) c v3 v4 x >>= kk) Q := by
  rw [k0_part8_eq_skeleton]; unfold k0_part8_skel
  simp only [here, Prog.lift, Prog.bind_op, Prog.bind_ret, Prog.pure_eq_ret]
  refine step_send m ρ K c 0 (by exact Fin.ext (sendDev_eq c 0)) (off4_row c 2 0) (sl := 8) rfl ?_
  exact h

theorem body_9 (v3 v4 : BitVec 32) {kk : PUnit → Prog (TpuEff nD τ sig (Elt F) Λ₀ .tc) α} (h : Sb m ρ K c 3 ⊢ WP c (kk ⟨⟩) Q) :
    Sb m ρ K c 1 ⊢ WP c (here (k0_part9 (F := F)) c v3 v4 >>= kk) Q := by
  rw [k0_part9_eq_skeleton]; unfold k0_part9_skel
  simp only [here, Prog.lift, Prog.bind_op, Prog.bind_ret, Prog.pure_eq_ret]
  refine step_send m ρ K c 1 (by exact Fin.ext (sendDev_eq c 1)) (off4_row c 2 1) (sl := 11) rfl ?_
  refine step_send m ρ K c 2 (by exact Fin.ext (sendDev_eq c 2)) (off4_row c 2 2) (sl := 10) rfl ?_
  exact h

theorem body_10 (v3 v4 : BitVec 32) {kk : PUnit → Prog (TpuEff nD τ sig (Elt F) Λ₀ .tc) α} (h : Sb m ρ K c 5 ⊢ WP c (kk ⟨⟩) Q) :
    Sb m ρ K c 3 ⊢ WP c (here (k0_part10 (F := F)) c v3 v4 >>= kk) Q := by
  rw [k0_part10_eq_skeleton]; unfold k0_part10_skel
  simp only [here, Prog.lift, Prog.bind_op, Prog.bind_ret, Prog.pure_eq_ret]
  refine step_send m ρ K c 3 (by exact Fin.ext (sendDev_eq c 3)) (off4_row c 2 3) (sl := 9) rfl ?_
  refine step_send m ρ K c 4 (by exact Fin.ext (sendDev_eq c 4)) (off4_row c 1 0) (sl := 12) rfl ?_
  exact h

theorem body_11 (v3 v4 : BitVec 32) {kk : PUnit → Prog (TpuEff nD τ sig (Elt F) Λ₀ .tc) α} (h : Sb m ρ K c 7 ⊢ WP c (kk ⟨⟩) Q) :
    Sb m ρ K c 5 ⊢ WP c (here (k0_part11 (F := F)) c v3 v4 >>= kk) Q := by
  rw [k0_part11_eq_skeleton]; unfold k0_part11_skel
  simp only [here, Prog.lift, Prog.bind_op, Prog.bind_ret, Prog.pure_eq_ret]
  refine step_send m ρ K c 5 (by exact Fin.ext (sendDev_eq c 5)) (off4_row c 1 1) (sl := 15) rfl ?_
  refine step_send m ρ K c 6 (by exact Fin.ext (sendDev_eq c 6)) (off4_row c 1 2) (sl := 14) rfl ?_
  exact h

theorem body_12 (v3 v4 : BitVec 32) {kk : PUnit → Prog (TpuEff nD τ sig (Elt F) Λ₀ .tc) α} (h : Sb m ρ K c 9 ⊢ WP c (kk ⟨⟩) Q) :
    Sb m ρ K c 7 ⊢ WP c (here (k0_part12 (F := F)) c v3 v4 >>= kk) Q := by
  rw [k0_part12_eq_skeleton]; unfold k0_part12_skel
  simp only [here, Prog.lift, Prog.bind_op, Prog.bind_ret, Prog.pure_eq_ret]
  refine step_send m ρ K c 7 (by exact Fin.ext (sendDev_eq c 7)) (off4_row c 1 3) (sl := 13) rfl ?_
  refine step_send m ρ K c 8 (by exact Fin.ext (sendDev_eq c 8)) (off4_row c 3 0) (sl := 4) rfl ?_
  exact h

theorem body_13 (v3 v4 : BitVec 32) {kk : PUnit → Prog (TpuEff nD τ sig (Elt F) Λ₀ .tc) α} (h : Sb m ρ K c 11 ⊢ WP c (kk ⟨⟩) Q) :
    Sb m ρ K c 9 ⊢ WP c (here (k0_part13 (F := F)) c v3 v4 >>= kk) Q := by
  rw [k0_part13_eq_skeleton]; unfold k0_part13_skel
  simp only [here, Prog.lift, Prog.bind_op, Prog.bind_ret, Prog.pure_eq_ret]
  refine step_send m ρ K c 9 (by exact Fin.ext (sendDev_eq c 9)) (off4_row c 3 1) (sl := 7) rfl ?_
  refine step_send m ρ K c 10 (by exact Fin.ext (sendDev_eq c 10)) (off4_row c 3 2) (sl := 6) rfl ?_
  exact h

theorem body_14 (v3 v4 : BitVec 32) {kk : BitVec 32 → Prog (TpuEff nD τ sig (Elt F) Λ₀ .tc) α} (h : ∀ y, Sb m ρ K c 13 ⊢ WP c (kk y) Q) :
    Sb m ρ K c 11 ⊢ WP c (here (k0_part14 (F := F)) c v3 v4 >>= kk) Q := by
  rw [k0_part14_eq_skeleton]; unfold k0_part14_skel
  simp only [here, Prog.lift, Prog.bind_op, Prog.bind_ret, Prog.pure_eq_ret]
  refine step_send m ρ K c 11 (by exact Fin.ext (sendDev_eq c 11)) (off4_row c 3 3) (sl := 5) rfl ?_
  refine step_send m ρ K c 12 (by exact Fin.ext (sendDev_eq c 12)) (off4_row c 0 1) (sl := 3) rfl ?_
  exact h _

end Cert.Exchange

end
-- ==== Proof.Contract.lean ====
/-
# The body from the last send on

Block by block the product of an arrived left block with the streamed right block is added to the result; then the
waits for the sends and the handshake at exit.
-/
module

public import proofs.«01_k».proof.Proof.Exchange

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : GSem nD τ sig → ℕ) (c : Dev nD)
variable {α : Type} {Q : α → sProp (MT nD τ sig Unit (Elt F) ℕ UU ℕ)}

/-- The state between the last send and the first wait for one: `a` copies of the stream issued and `b` awaited, `r`
    arrivals awaited, the result's buffer as `G`. -/
abbrev Sc (a b r : ℕ) (G : sProp (MT nD τ sig Unit (Elt F) ℕ UU ℕ)) : sProp (MT nD τ sig Unit (Elt F) ℕ UU ℕ) :=
  St m ρ K c 15 15 0 (Str m ρ c a b) (semVal (barCell c) 0) (Xs m ρ c) (Snd2 m ρ c 0) (Rcv m ρ c r) G (Ext c 0)
/-- The state after: `k` sends awaited, `nx` exit signals sent. -/
abbrev Sd (k nx : ℕ) (E : sProp (MT nD τ sig Unit (Elt F) ℕ UU ℕ)) : sProp (MT nD τ sig Unit (Elt F) ℕ UU ℕ) :=
  St m ρ K c 15 15 nx (Str m ρ c 16 16) (semVal (barCell c) 0) (Xs m ρ c) (Snd2 m ρ c k) (Rcv m ρ c 15) (Out m ρ c 15) E

/-- The left block of arrival `j`, and the right block of index `i`. -/
abbrev left (j : Fin 15) : Vec F S256x256 .bf16 := xblk m ρ (src c (rslot j)) c
abbrev right (i : ℕ) : Vec F S256x2048 .f32 := wblk m ρ c (src c (it i))

/-- One accumulation: load the right block just awaited, load the result's buffer twice, store the sum. -/
theorem step_acc {nb ns nx a b n : ℕ} {B X S V E : sProp 𝕄} (k : Fin 8) (hk : k.val = b % 8) (ha : b < a) (hb : a ≤ b + 8) (hb' : b < 16)
    {f : Vec F S1x256x2048 .f32 → Vec F S256x2048 .f32 → Vec F S256x2048 .f32}
    (hf : f (liftW (right m ρ c b)) (acc m ρ c n) = acc m ρ c (n + 1))
    {hl inb hl₁ hl₂ hs hm} {kk : PUnit → Prog (TpuEff nD τ sig (Elt F) Λ₀ .tc) α}
    (h : St m ρ K c nb ns nx (Str m ρ c a (b + 1)) B X S V (Out m ρ c (n + 1)) E ⊢ WP c (kk ⟨⟩) Q) :
    St m ρ K c nb ns nx (Str m ρ c a (b + 1)) B X S V (Out m ρ c n) E
      ⊢ WP c (.op (.load sM (sRect k).toLoadRect hl) fun w => .op (.load oM (oRect inb).toLoadRect hl₁) fun v =>
          .op (.load oM (oRect inb).toLoadRect hl₂) fun _ => .op (.store oM (oRect inb) (f w v) Finset.univ hs hm) kk) Q := by
  refine step_loadW m ρ K c k hk ha hb hb' ?_
  refine step_loadOut m ρ K c ?_
  refine step_loadOut m ρ K c ?_
  exact step_storeOut m ρ K c hf (Out_any m ρ c) h

/-- The last two sends, the block kept, the first right block awaited. -/
theorem body_15 (v2 v3 v4 x : BitVec 32) {kk : Vec F S256x256 .bf16 → Prog (TpuEff nD τ sig (Elt F) Λ₀ .tc) α}
    (h : Sc m ρ K c 7 1 0 (Out0 c) ⊢ WP c (kk (xblk m ρ c c)) Q) :
    Sb m ρ K c 13 ⊢ WP c (here (k0_part15 (F := F)) c v2 v3 v4 x >>= kk) Q := by
  rw [k0_part15_eq_skeleton]; unfold k0_part15_skel
  simp only [here, Prog.lift, Prog.bind_op, Prog.bind_ret, Prog.pure_eq_ret]
  refine step_send m ρ K c 13 (by exact Fin.ext (sendDev_eq c 13)) (off4_row c 0 2) (sl := 2) rfl ?_
  refine step_send m ρ K c 14 (by exact Fin.ext (sendDev_eq c 14)) (off4_row c 0 3) (sl := 1) rfl ?_
  refine step_loadOwn m ρ K c (off5_row c) ?_
  refine step_await m ρ K c (b := 0) 0 rfl (by decide) (by decide) (by decide) ?_
  exact h

theorem body_16 (v2 v40 v46 : BitVec 32) {kk : FVec F S256x256 .bf16 → Prog (TpuEff nD τ sig (Elt F) Λ₀ .tc) α}
    (h : Sc m ρ K c 8 2 1 (Out m ρ c 0) ⊢ WP c (kk (left m ρ c 0)) Q) :
    Sc m ρ K c 7 1 0 (Out0 c) ⊢ WP c (here (k0_part16 (F := F)) c v2 v40 v46 (xblk m ρ c c) >>= kk) Q := by
  rw [k0_part16_eq_skeleton]; unfold k0_part16_skel
  simp only [here, Prog.lift, Prog.bind_op, Prog.bind_ret, Prog.pure_eq_ret]
  refine step_issue m ρ K c (a := 7) 7 rfl (by decide) (by decide) (by decide) (off3_row c 0 3) ?_
  refine step_loadW m ρ K c (b := 0) 0 rfl (by decide) (by decide) (by decide) ?_
  refine step_loadOut0 m ρ K c fun v => ?_
  refine step_storeOut m ρ K c (n := 0) (pay_first _ _) (Entails.refl _) ?_
  refine step_waitRecv m ρ K c 0 (sl := 1) rfl ?_
  refine step_loadG m ρ K c 0 ?_
  refine step_await m ρ K c (b := 1) 1 rfl (by decide) (by decide) (by decide) ?_
  rw [pay_lift]; exact h

theorem body_17 (v2 : BitVec 32) {kk : FVec F S256x256 .bf16 → Prog (TpuEff nD τ sig (Elt F) Λ₀ .tc) α}
    (h : Sc m ρ K c 9 2 2 (Out m ρ c 1) ⊢ WP c (kk (left m ρ c 1)) Q) :
    Sc m ρ K c 8 2 1 (Out m ρ c 0) ⊢ WP c (here (k0_part17 (F := F)) c v2 (left m ρ c 0) >>= kk) Q := by
  rw [k0_part17_eq_skeleton]; unfold k0_part17_skel
  simp only [here, Prog.lift, Prog.bind_op, Prog.bind_ret, Prog.pure_eq_ret]
  refine step_issue m ρ K c (a := 8) 0 rfl (by decide) (by decide) (by decide) (off3_row c 1 0) ?_
  refine step_acc m ρ K c (b := 1) 1 rfl (by decide) (by decide) (by decide) (pay_add _ _ _) ?_
  refine step_waitRecv m ρ K c 1 (sl := 2) rfl ?_
  refine step_loadG m ρ K c 1 ?_
  rw [show ∀ g : Vec F S256x256 .bf16, k0_pay5 (liftG g) = g from pay_lift]; exact h

theorem body_18 (v2 v52 : BitVec 32) {kk : FVec F S256x256 .bf16 → Prog (TpuEff nD τ sig (Elt F) Λ₀ .tc) α}
    (h : Sc m ρ K c 10 3 3 (Out m ρ c 2) ⊢ WP c (kk (left m ρ c 2)) Q) :
    Sc m ρ K c 9 2 2 (Out m ρ c 1)
      ⊢ WP c (here (k0_part18 (F := F)) c v2 v52 (left m ρ c 1) >>= kk) Q := by
  rw [k0_part18_eq_skeleton]; unfold k0_part18_skel
  simp only [here, Prog.lift, Prog.bind_op, Prog.bind_ret, Prog.pure_eq_ret]
  refine step_await m ρ K c (b := 2) 2 rfl (by decide) (by decide) (by decide) ?_
  refine step_issue m ρ K c (a := 9) 1 rfl (by decide) (by decide) (by decide) (off3_row c 1 1) ?_
  refine step_acc m ρ K c (b := 2) 2 rfl (by decide) (by decide) (by decide) (pay_add _ _ _) ?_
  refine step_waitRecv m ρ K c 2 (sl := 3) rfl ?_
  refine step_loadG m ρ K c 2 ?_
  rw [show ∀ g : Vec F S256x256 .bf16, k0_pay7 (liftG g) = g from pay_lift]; exact h

theorem body_19 (v2 v58 : BitVec 32) {kk : FVec F S256x256 .bf16 → Prog (TpuEff nD τ sig (Elt F) Λ₀ .tc) α}
    (h : Sc m ρ K c 11 4 4 (Out m ρ c 3) ⊢ WP c (kk (left m ρ c 3)) Q) :
    Sc m ρ K c 10 3 3 (Out m ρ c 2)
      ⊢ WP c (here (k0_part19 (F := F)) c v2 v58 (left m ρ c 2) >>= kk) Q := by
  rw [k0_part19_eq_skeleton]; unfold k0_part19_skel
  simp only [here, Prog.lift, Prog.bind_op, Prog.bind_ret, Prog.pure_eq_ret]
  refine step_await m ρ K c (b := 3) 3 rfl (by decide) (by decide) (by decide) ?_
  refine step_issue m ρ K c (a := 10) 2 rfl (by decide) (by decide) (by decide) (off3_row c 1 2) ?_
  refine step_acc m ρ K c (b := 3) 3 rfl (by decide) (by decide) (by decide) (pay_add _ _ _) ?_
  refine step_waitRecv m ρ K c 3 (sl := 4) rfl ?_
  refine step_loadG m ρ K c 3 ?_
  rw [show ∀ g : Vec F S256x256 .bf16, k0_pay9 (liftG g) = g from pay_lift]; exact h

theorem body_20 (v2 v64 : BitVec 32) {kk : FVec F S256x256 .bf16 → Prog (TpuEff nD τ sig (Elt F) Λ₀ .tc) α}
    (h : Sc m ρ K c 12 5 5 (Out m ρ c 4) ⊢ WP c (kk (left m ρ c 4)) Q) :
    Sc m ρ K c 11 4 4 (Out m ρ c 3)
      ⊢ WP c (here (k0_part20 (F := F)) c v2 v64 (left m ρ c 3) >>= kk) Q := by
  rw [k0_part20_eq_skeleton]; unfold k0_part20_skel
  simp only [here, Prog.lift, Prog.bind_op, Prog.bind_ret, Prog.pure_eq_ret]
  refine step_await m ρ K c (b := 4) 4 rfl (by decide) (by decide) (by decide) ?_
  refine step_issue m ρ K c (a := 11) 3 rfl (by decide) (by decide) (by decide) (off3_row c 1 3) ?_
  refine step_acc m ρ K c (b := 4) 4 rfl (by decide) (by decide) (by decide) (pay_add _ _ _) ?_
  refine step_waitRecv m ρ K c 4 (sl := 5) rfl ?_
  refine step_loadG m ρ K c 4 ?_
  rw [show ∀ g : Vec F S256x256 .bf16, k0_pay11 (liftG g) = g from pay_lift]; exact h

/-- The payloads that take the arrived block as loaded, with its leading axis of one. -/
theorem pay_addG (g : Vec F S256x256 .bf16) (w : Vec F S256x2048 .f32) (a : Vec F S256x2048 .f32) :
    k0_pay13 (liftG g) (liftW w) a = addf a (prod g w) := by
  rw [show k0_pay13 (liftG g) (liftW w) a = k0_pay4 (k0_pay3 (liftG g)) (liftW w) a from rfl, pay_lift, pay_add]
theorem pay_prod (g : Vec F S256x256 .bf16) (w : Vec F S256x2048 .f32) : k0_pay20 (liftG g) (liftW w) = prod g w := by
  rw [show k0_pay20 (liftG g) (liftW w) = k0_pay2 (k0_pay3 (liftG g)) (liftW w) from rfl, pay_lift, pay_first]
theorem pay_sum (p a : FVec F S256x2048 .f32) : k0_pay21 p a = addf a p := by
  show addf (shapeCast S256x2048 a _) p = _
  rw [shapeCast_self]

theorem body_21 (v2 x : BitVec 32) {kk : PUnit → Prog (TpuEff nD τ sig (Elt F) Λ₀ .tc) α}
    (h : Sc m ρ K c 13 6 6 (Out m ρ c 5) ⊢ WP c (kk ⟨⟩) Q) :
    Sc m ρ K c 12 5 5 (Out m ρ c 4) ⊢ WP c (here (k0_part21 (F := F)) c v2 x (left m ρ c 4) >>= kk) Q := by
  rw [k0_part21_eq_skeleton]; unfold k0_part21_skel
  simp only [here, Prog.lift, Prog.bind_op, Prog.bind_ret, Prog.pure_eq_ret]
  refine step_await m ρ K c (b := 5) 5 rfl (by decide) (by decide) (by decide) ?_
  refine step_issue m ρ K c (a := 12) 4 rfl (by decide) (by decide) (by decide) (off3_row c 2 0) ?_
  refine step_acc m ρ K c (b := 5) 5 rfl (by decide) (by decide) (by decide) (pay_add _ _ _) ?_
  refine step_waitRecv m ρ K c 5 (sl := 6) rfl ?_
  exact h

theorem body_22 (v2 x : BitVec 32) {kk : PUnit → Prog (TpuEff nD τ sig (Elt F) Λ₀ .tc) α}
    (h : Sc m ρ K c 14 7 7 (Out m ρ c 6) ⊢ WP c (kk ⟨⟩) Q) :
    Sc m ρ K c 13 6 6 (Out m ρ c 5) ⊢ WP c (here (k0_part22 (F := F)) c v2 x >>= kk) Q := by
  rw [k0_part22_eq_skeleton]; unfold k0_part22_skel
  simp only [here, Prog.lift, Prog.bind_op, Prog.bind_ret, Prog.pure_eq_ret]
  refine step_loadG m ρ K c 5 ?_
  refine step_await m ρ K c (b := 6) 6 rfl (by decide) (by decide) (by decide) ?_
  refine step_issue m ρ K c (a := 13) 5 rfl (by decide) (by decide) (by decide) (off3_row c 2 1) ?_
  refine step_acc m ρ K c (b := 6) 6 rfl (by decide) (by decide) (by decide) (pay_addG _ _ _) ?_
  refine step_waitRecv m ρ K c 6 (sl := 7) rfl ?_
  exact h

theorem body_23 (v2 x : BitVec 32) {kk : PUnit → Prog (TpuEff nD τ sig (Elt F) Λ₀ .tc) α}
    (h : Sc m ρ K c 15 8 7 (Out m ρ c 7) ⊢ WP c (kk ⟨⟩) Q) :
    Sc m ρ K c 14 7 7 (Out m ρ c 6) ⊢ WP c (here (k0_part23 (F := F)) c v2 x >>= kk) Q := by
  rw [k0_part23_eq_skeleton]; unfold k0_part23_skel
  simp only [here, Prog.lift, Prog.bind_op, Prog.bind_ret, Prog.pure_eq_ret]
  refine step_loadG m ρ K c 6 ?_
  refine step_await m ρ K c (b := 7) 7 rfl (by decide) (by decide) (by decide) ?_
  refine step_issue m ρ K c (a := 14) 6 rfl (by decide) (by decide) (by decide) (off3_row c 2 2) ?_
  refine step_acc m ρ K c (b := 7) 7 rfl (by decide) (by decide) (by decide) (pay_addG _ _ _) ?_
  exact h

theorem body_24 (v2 x : BitVec 32) {kk : PUnit → Prog (TpuEff nD τ sig (Elt F) Λ₀ .tc) α}
    (h : Sc m ρ K c 16 9 8 (Out m ρ c 8) ⊢ WP c (kk ⟨⟩) Q) :
    Sc m ρ K c 15 8 7 (Out m ρ c 7) ⊢ WP c (here (k0_part24 (F := F)) c v2 x >>= kk) Q := by
  rw [k0_part24_eq_skeleton]; unfold k0_part24_skel
  simp only [here, Prog.lift, Prog.bind_op, Prog.bind_ret, Prog.pure_eq_ret]
  refine step_waitRecv m ρ K c 7 (sl := 8) rfl ?_
  refine step_loadG m ρ K c 7 ?_
  refine step_await m ρ K c (b := 8) 0 rfl (by decide) (by decide) (by decide) ?_
  refine step_issue m ρ K c (a := 15) 7 rfl (by decide) (by decide) (by decide) (off3_row c 2 3) ?_
  refine step_acc m ρ K c (b := 8) 0 rfl (by decide) (by decide) (by decide) (pay_addG _ _ _) ?_
  exact h

theorem body_25 (v2 : BitVec 32) {kk : Vec F S1x256x256 .bf16 → Prog (TpuEff nD τ sig (Elt F) Λ₀ .tc) α}
    (h : Sc m ρ K c 16 10 10 (Out m ρ c 9) ⊢ WP c (kk (liftG (left m ρ c 9))) Q) :
    Sc m ρ K c 16 9 8 (Out m ρ c 8) ⊢ WP c (here (k0_part25 (F := F)) c v2 >>= kk) Q := by
  rw [k0_part25_eq_skeleton]; unfold k0_part25_skel
  simp only [here, Prog.lift, Prog.bind_op, Prog.bind_ret, Prog.pure_eq_ret]
  refine step_waitRecv m ρ K c 8 (sl := 9) rfl ?_
  refine step_loadG m ρ K c 8 ?_
  refine step_await m ρ K c (b := 9) 1 rfl (by decide) (by decide) (by decide) ?_
  refine step_acc m ρ K c (b := 9) 1 rfl (by decide) (by decide) (by decide) (pay_addG _ _ _) ?_
  refine step_waitRecv m ρ K c 9 (sl := 10) rfl ?_
  refine step_loadG m ρ K c 9 ?_
  exact h

theorem body_26 (v2 : BitVec 32) {kk : FVec F S256x256 .bf16 → Prog (TpuEff nD τ sig (Elt F) Λ₀ .tc) α}
    (h : Sc m ρ K c 16 11 11 (Out m ρ c 10) ⊢ WP c (kk (left m ρ c 10)) Q) :
    Sc m ρ K c 16 10 10 (Out m ρ c 9) ⊢ WP c (here (k0_part26 (F := F)) c v2 (liftG (left m ρ c 9)) >>= kk) Q := by
  rw [k0_part26_eq_skeleton]; unfold k0_part26_skel
  simp only [here, Prog.lift, Prog.bind_op, Prog.bind_ret, Prog.pure_eq_ret]
  refine step_await m ρ K c (b := 10) 2 rfl (by decide) (by decide) (by decide) ?_
  refine step_acc m ρ K c (b := 10) 2 rfl (by decide) (by decide) (by decide) (pay_addG _ _ _) ?_
  refine step_waitRecv m ρ K c 10 (sl := 11) rfl ?_
  refine step_loadG m ρ K c 10 ?_
  rw [show ∀ g : Vec F S256x256 .bf16, k0_pay18 (liftG g) = g from pay_lift]; exact h

theorem body_27 (v2 : BitVec 32) {kk : FVec F S256x2048 .f32 → Prog (TpuEff nD τ sig (Elt F) Λ₀ .tc) α}
    (h : Sc m ρ K c 16 13 12 (Out m ρ c 11) ⊢ WP c (kk (prod (left m ρ c 11) (right m ρ c 12))) Q) :
    Sc m ρ K c 16 11 11 (Out m ρ c 10) ⊢ WP c (here (k0_part27 (F := F)) c v2 (left m ρ c 10) >>= kk) Q := by
  rw [k0_part27_eq_skeleton]; unfold k0_part27_skel
  simp only [here, Prog.lift, Prog.bind_op, Prog.bind_ret, Prog.pure_eq_ret]
  refine step_await m ρ K c (b := 11) 3 rfl (by decide) (by decide) (by decide) ?_
  refine step_acc m ρ K c (b := 11) 3 rfl (by decide) (by decide) (by decide) (pay_add _ _ _) ?_
  refine step_waitRecv m ρ K c 11 (sl := 12) rfl ?_
  refine step_loadG m ρ K c 11 ?_
  refine step_await m ρ K c (b := 12) 4 rfl (by decide) (by decide) (by decide) ?_
  refine step_loadW m ρ K c (b := 12) 4 rfl (by decide) (by decide) (by decide) ?_
  rw [pay_prod]; exact h

theorem body_28 (v2 : BitVec 32) {kk : PUnit → Prog (TpuEff nD τ sig (Elt F) Λ₀ .tc) α}
    (h : Sc m ρ K c 16 14 13 (Out m ρ c 13) ⊢ WP c (kk ⟨⟩) Q) :
    Sc m ρ K c 16 13 12 (Out m ρ c 11) ⊢ WP c (here (k0_part28 (F := F)) c v2 (prod (left m ρ c 11) (right m ρ c 12)) >>= kk) Q := by
  rw [k0_part28_eq_skeleton]; unfold k0_part28_skel
  simp only [here, Prog.lift, Prog.bind_op, Prog.bind_ret, Prog.pure_eq_ret]
  refine step_loadOut m ρ K c ?_
  refine step_loadOut m ρ K c ?_
  refine step_storeOut m ρ K c (n := 12) (pay_sum _ _) (Out_any m ρ c) ?_
  refine step_waitRecv m ρ K c 12 (sl := 13) rfl ?_
  refine step_loadG m ρ K c 12 ?_
  refine step_await m ρ K c (b := 13) 5 rfl (by decide) (by decide) (by decide) ?_
  refine step_acc m ρ K c (b := 13) 5 rfl (by decide) (by decide) (by decide) (pay_addG _ _ _) ?_
  exact h

theorem body_29 (v2 : BitVec 32) {kk : PUnit → Prog (TpuEff nD τ sig (Elt F) Λ₀ .tc) α}
    (h : Sc m ρ K c 16 15 14 (Out m ρ c 14) ⊢ WP c (kk ⟨⟩) Q) :
    Sc m ρ K c 16 14 13 (Out m ρ c 13) ⊢ WP c (here (k0_part29 (F := F)) c v2 >>= kk) Q := by
  rw [k0_part29_eq_skeleton]; unfold k0_part29_skel
  simp only [here, Prog.lift, Prog.bind_op, Prog.bind_ret, Prog.pure_eq_ret]
  refine step_waitRecv m ρ K c 13 (sl := 14) rfl ?_
  refine step_loadG m ρ K c 13 ?_
  refine step_await m ρ K c (b := 14) 6 rfl (by decide) (by decide) (by decide) ?_
  refine step_acc m ρ K c (b := 14) 6 rfl (by decide) (by decide) (by decide) (pay_addG _ _ _) ?_
  exact h

theorem body_30 {kk : PUnit → Prog (TpuEff nD τ sig (Elt F) Λ₀ .tc) α}
    (h : Sd m ρ K c 1 0 (Ext c 0) ⊢ WP c (kk ⟨⟩) Q) :
    Sc m ρ K c 16 15 14 (Out m ρ c 14) ⊢ WP c (here (k0_part30 (F := F)) c >>= kk) Q := by
  rw [k0_part30_eq_skeleton]; unfold k0_part30_skel
  simp only [here, Prog.lift, Prog.bind_op, Prog.bind_ret, Prog.pure_eq_ret]
  refine step_waitRecv m ρ K c 14 (sl := 15) rfl ?_
  refine step_loadG m ρ K c 14 ?_
  refine step_await m ρ K c (b := 15) 7 rfl (by decide) (by decide) (by decide) ?_
  refine step_acc m ρ K c (b := 15) 7 rfl (by decide) (by decide) (by decide) (pay_addG _ _ _) ?_
  refine step_waitSend m ρ K c 0 (sl := 8) rfl ?_
  exact h

theorem body_31 {kk : PUnit → Prog (TpuEff nD τ sig (Elt F) Λ₀ .tc) α}
    (h : Sd m ρ K c 6 0 (Ext c 0) ⊢ WP c (kk ⟨⟩) Q) :
    Sd m ρ K c 1 0 (Ext c 0) ⊢ WP c (here (k0_part31 (F := F)) c >>= kk) Q := by
  rw [k0_part31_eq_skeleton]; unfold k0_part31_skel
  simp only [here, Prog.lift, Prog.bind_op, Prog.bind_ret, Prog.pure_eq_ret]
  refine step_waitSend m ρ K c 1 (sl := 11) rfl ?_
  refine step_waitSend m ρ K c 2 (sl := 10) rfl ?_
  refine step_waitSend m ρ K c 3 (sl := 9) rfl ?_
  refine step_waitSend m ρ K c 4 (sl := 12) rfl ?_
  refine step_waitSend m ρ K c 5 (sl := 15) rfl ?_
  exact h

theorem body_32 {kk : PUnit → Prog (TpuEff nD τ sig (Elt F) Λ₀ .tc) α}
    (h : Sd m ρ K c 10 0 (Ext c 0) ⊢ WP c (kk ⟨⟩) Q) :
    Sd m ρ K c 6 0 (Ext c 0) ⊢ WP c (here (k0_part32 (F := F)) c >>= kk) Q := by
  rw [k0_part32_eq_skeleton]; unfold k0_part32_skel
  simp only [here, Prog.lift, Prog.bind_op, Prog.bind_ret, Prog.pure_eq_ret]
  refine step_waitSend m ρ K c 6 (sl := 14) rfl ?_
  refine step_waitSend m ρ K c 7 (sl := 13) rfl ?_
  refine step_waitSend m ρ K c 8 (sl := 4) rfl ?_
  refine step_waitSend m ρ K c 9 (sl := 7) rfl ?_
  exact h

theorem body_33 (v2 : BitVec 32) {kk : (Σ' (_ : BitVec 32), BitVec 32) → Prog (TpuEff nD τ sig (Elt F) Λ₀ .tc) α}
    (h : ∀ y z, Sd m ρ K c 15 0 (Ext c 0) ⊢ WP c (kk ⟨y, z⟩) Q) :
    Sd m ρ K c 10 0 (Ext c 0) ⊢ WP c (here (k0_part33 (F := F)) c v2 >>= kk) Q := by
  rw [k0_part33_eq_skeleton]; unfold k0_part33_skel
  simp only [here, Prog.lift, Prog.bind_op, Prog.bind_ret, Prog.pure_eq_ret]
  refine step_waitSend m ρ K c 10 (sl := 6) rfl ?_
  refine step_waitSend m ρ K c 11 (sl := 5) rfl ?_
  refine step_waitSend m ρ K c 12 (sl := 3) rfl ?_
  refine step_waitSend m ρ K c 13 (sl := 2) rfl ?_
  refine step_waitSend m ρ K c 14 (sl := 1) rfl ?_
  exact h _ _

theorem body_34 (v2 x x₁ : BitVec 32) {kk : (Σ' (_ : BitVec 32), BitVec 32) → Prog (TpuEff nD τ sig (Elt F) Λ₀ .tc) α}
    (h : ∀ y z, Sd m ρ K c 15 6 (Ext c 6) ⊢ WP c (kk ⟨y, z⟩) Q) :
    Sd m ρ K c 15 0 (Ext c 0) ⊢ WP c (here (k0_part34 (F := F)) c v2 x x₁ >>= kk) Q := by
  rw [k0_part34_eq_skeleton]; unfold k0_part34_skel
  simp only [here, semSignalWord, Prog.lift, Prog.bind_op, Prog.bind_ret, Prog.pure_eq_ret]
  refine step_sigExt m ρ K c 0 (by exact Fin.ext (extDev_eq c 0)) (by decide) ?_
  refine step_sigExt m ρ K c 1 (by exact Fin.ext (extDev_eq c 1)) (by decide) ?_
  refine step_sigExt m ρ K c 2 (by exact Fin.ext (extDev_eq c 2)) (by decide) ?_
  refine step_sigExt m ρ K c 3 (by exact Fin.ext (extDev_eq c 3)) (by decide) ?_
  refine step_sigExt m ρ K c 4 (by exact Fin.ext (extDev_eq c 4)) (by decide) ?_
  refine step_sigExt m ρ K c 5 (by exact Fin.ext (extDev_eq c 5)) (by decide) ?_
  exact h _ _

theorem body_35 (v2 x x₁ : BitVec 32) {kk : (Σ' (_ : BitVec 32), BitVec 32) → Prog (TpuEff nD τ sig (Elt F) Λ₀ .tc) α}
    (h : ∀ y z, Sd m ρ K c 15 12 (Ext c 12) ⊢ WP c (kk ⟨y, z⟩) Q) :
    Sd m ρ K c 15 6 (Ext c 6) ⊢ WP c (here (k0_part35 (F := F)) c v2 x x₁ >>= kk) Q := by
  rw [k0_part35_eq_skeleton]; unfold k0_part35_skel
  simp only [here, semSignalWord, Prog.lift, Prog.bind_op, Prog.bind_ret, Prog.pure_eq_ret]
  refine step_sigExt m ρ K c 6 (by exact Fin.ext (extDev_eq c 6)) (by decide) ?_
  refine step_sigExt m ρ K c 7 (by exact Fin.ext (extDev_eq c 7)) (by decide) ?_
  refine step_sigExt m ρ K c 8 (by exact Fin.ext (extDev_eq c 8)) (by decide) ?_
  refine step_sigExt m ρ K c 9 (by exact Fin.ext (extDev_eq c 9)) (by decide) ?_
  refine step_sigExt m ρ K c 10 (by exact Fin.ext (extDev_eq c 10)) (by decide) ?_
  refine step_sigExt m ρ K c 11 (by exact Fin.ext (extDev_eq c 11)) (by decide) ?_
  exact h _ _

/-- The whole body: from the launch's state, everything issued is awaited, everything owed is paid, and the result holds
    the sum of all sixteen products. -/
theorem body_all {P : PUnit → sProp 𝕄}
    (h : St m ρ K c 15 15 15 (Str m ρ c 16 16) (semVal (barCell c) 0) (Xs m ρ c) (Snd2 m ρ c 15) (Rcv m ρ c 15) (Out m ρ c 15)
      (semVal (extCell c) 0) ⊢ P ⟨⟩) :
    Sa m ρ K c 0 0 iprop(Xs m ρ c ∗ Bs c) ⊢ WP c (here (cc0_body (F := F))) P := by
  rw [cc0_body_eq_skeleton]; unfold cc0_body_skel
  rw [k0_part36_eq_skeleton]; unfold k0_part36_skel
  simp only [here, Prog.bind_assoc]
  refine body_1 c fun v2 v3 v4 v8 v12 v16 v22 v28 v31 x => ?_
  refine body_2 c v3 v4 v31 x fun v34 v40 v46 v52 v58 v64 y => ?_
  refine body_3 m ρ K c v2 v3 v4 v8 y fun v70 v76 v82 v88 => ?_
  refine body_4 m ρ K c v12 v16 v22 v28 ?_
  refine body_5 m ρ K c v2 v34 fun z => ?_
  refine body_6 m ρ K c v2 z fun z => ?_
  refine body_7 m ρ K c v2 z fun z => ?_
  refine body_8 m ρ K c v3 v4 z ?_
  refine body_9 m ρ K c v3 v4 ?_
  refine body_10 m ρ K c v3 v4 ?_
  refine body_11 m ρ K c v3 v4 ?_
  refine body_12 m ρ K c v3 v4 ?_
  refine body_13 m ρ K c v3 v4 ?_
  refine body_14 m ρ K c v3 v4 fun z => ?_
  refine body_15 m ρ K c v2 v3 v4 z ?_
  refine body_16 m ρ K c v2 v40 v46 ?_
  refine body_17 m ρ K c v2 ?_
  refine body_18 m ρ K c v2 v52 ?_
  refine body_19 m ρ K c v2 v58 ?_
  refine body_20 m ρ K c v2 v64 ?_
  refine body_21 m ρ K c v2 v70 ?_
  refine body_22 m ρ K c v2 v76 ?_
  refine body_23 m ρ K c v2 v82 ?_
  refine body_24 m ρ K c v2 v88 ?_
  refine body_25 m ρ K c v2 ?_
  refine body_26 m ρ K c v2 ?_
  refine body_27 m ρ K c v2 ?_
  refine body_28 m ρ K c v2 ?_
  refine body_29 m ρ K c v2 ?_
  refine body_30 m ρ K c ?_
  refine body_31 m ρ K c ?_
  refine body_32 m ρ K c ?_
  refine body_33 m ρ K c v2 fun y z => ?_
  refine body_34 m ρ K c v2 y z fun y z => ?_
  refine body_35 m ρ K c v2 y z fun y z => ?_
  simp only [semSignalWord, semWaitWord, Prog.lift, Prog.bind_op, Prog.bind_ret, Prog.pure_eq_ret]
  refine step_sigExt m ρ K c 12 (by exact Fin.ext (extDev_eq c 12)) (by decide) ?_
  refine step_sigExt m ρ K c 13 (by exact Fin.ext (extDev_eq c 13)) (by decide) ?_
  refine step_sigExt m ρ K c 14 (by exact Fin.ext (extDev_eq c 14)) (by decide) ?_
  refine step_waitExt m ρ K c (by decide) ?_
  refine h.trans ?_
  show P ⟨⟩ ⊢ wp _ _ _ _ _
  rw [wp_ret]
  iintro H; imodintro; iexact H

end Cert.Exchange

end
-- ==== Proof.Deal.lean ====
/-
# What the launch deals

The ghost resources made at launch, the invariants of all cells, and what each device starts from.
-/
module

public import proofs.«01_k».proof.Proof.Contract
public import Idealize.ShloMosaic.Lib.Pipeline.CollectiveSegs

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Indices other than zero -/

omit [FloatOps F] in
/-- The indices other than zero, listed by an injective map of fifteen. -/
theorem bigSep_nz {f : Fin 15 → Fin 16} (h : Finset.univ.image f = Finset.univ.erase 0) (hf : Function.Injective f)
    (Φ : Fin 16 → sProp 𝕄) : bigSep (Finset.univ.erase 0) Φ = bigSep Finset.univ fun j => Φ (f j) := by
  rw [← h, bigSep_image_of_injOn (fun _ _ _ _ e => hf e)]

omit [FloatOps F] in
/-- A share for each of sixteen indices is that of zero and those of the others. -/
theorem bigSep_zero {f : Fin 15 → Fin 16} (h : Finset.univ.image f = Finset.univ.erase 0) (hf : Function.Injective f)
    (Φ : Fin 16 → sProp 𝕄) : bigSep Finset.univ Φ = iprop(Φ 0 ∗ bigSep Finset.univ fun j => Φ (f j)) := by
  rw [bigSep_erase (Finset.mem_univ (0 : Fin 16)), bigSep_nz h hf]; rfl

theorem tslot_cover : Finset.univ.image tslot = Finset.univ.erase (0 : Fin 16) := by decide +kernel
theorem tslot_inj : Function.Injective tslot := by decide +kernel
theorem rslot_cover : Finset.univ.image rslot = Finset.univ.erase (0 : Fin 16) := by decide +kernel
theorem rslot_inj : Function.Injective rslot := by decide +kernel

/-! ## The cells, by kind -/

abbrev sendIx (j : Fin 15) : Fin 32 := ⟨(tslot j).val, by omega⟩
abbrev recvIx (j : Fin 15) : Fin 32 := ⟨16 + (rslot j).val, by omega⟩

theorem sendIx_inj : Function.Injective sendIx := by decide +kernel
theorem recvIx_inj : Function.Injective recvIx := by decide +kernel
theorem cell_cover : (Finset.univ : Finset (Fin 32))
    = insert 0 (insert 16 (Finset.univ.image sendIx ∪ Finset.univ.image recvIx)) := by decide +kernel
theorem cell_disj : Disjoint (Finset.univ.image sendIx) (Finset.univ.image recvIx) := by decide +kernel
theorem cell_zero : (0 : Fin 32) ∉ insert 16 (Finset.univ.image sendIx ∪ Finset.univ.image recvIx) := by decide +kernel
theorem cell_sixteen : (16 : Fin 32) ∉ (Finset.univ.image sendIx ∪ Finset.univ.image recvIx) := by decide +kernel

omit [FloatOps F] in
/-- A share for each cell of a device, by kind. -/
theorem bigSep_kcell (c : Dev nD) (Ψ : GSem nD τ sig → sProp 𝕄) :
    (bigSep Finset.univ fun i : Fin 32 => Ψ (kcell (c, i)))
      = iprop(Ψ (barCell c) ∗ Ψ (extCell c) ∗ (bigSep Finset.univ fun j => Ψ (sendCell c (tslot j)))
          ∗ bigSep Finset.univ fun j => Ψ (recvCell c (rslot j))) := by
  rw [cell_cover, bigSep_insert cell_zero, bigSep_insert cell_sixteen, bigSep_union cell_disj,
    bigSep_image_of_injOn (fun _ _ _ _ e => sendIx_inj e), bigSep_image_of_injOn (fun _ _ _ _ e => recvIx_inj e),
    bigSep_congr (s := Finset.univ) (fun (j : Fin 15) _ => show Ψ (kcell (c, sendIx j)) = Ψ (sendCell c (tslot j)) by
      dsimp only [kcell]; rw [← csem_send (tslot j) (tslot_ne_zero j)]),
    bigSep_congr (s := Finset.univ) (fun (j : Fin 15) _ => show Ψ (kcell (c, recvIx j)) = Ψ (recvCell c (rslot j)) by
      dsimp only [kcell]; rw [← csem_recv (rslot j) (rslot_ne_zero j)])]
  rfl

omit [FloatOps F] in
/-- A share for each cell, by device. -/
theorem bigSep_cells (Ψ : GSem nD τ sig → sProp 𝕄) :
    bigSep cells Ψ = bigSep Finset.univ fun c : Dev nD => bigSep Finset.univ fun i : Fin 32 => Ψ (kcell (c, i)) := by
  unfold cells; rw [bigSep_map, bigSep_univ_prod]; rfl

/-! ## The kernel's own semaphores -/

/-- The kernel's own semaphores: of the exit, of the stream's slots, of the sends, of the arrivals. -/
abbrev OwnIx : Type := Unit ⊕ Fin 8 ⊕ Fin 16 ⊕ Fin 16
def osem : OwnIx → SemLoc sig
  | .inl _ => .reg extS
  | .inr (.inl k) => .dma (wS k)
  | .inr (.inr (.inl s)) => .dma (sendS s)
  | .inr (.inr (.inr s)) => .dma (recvS s)

theorem ownSemFacts : Pipeline.OwnSemFacts cfg0.spec osem := by decide +kernel

omit [FloatOps F] in
/-- They are that of the exit, those of the stream's slots, the two unused ones, and those of the sends and arrivals. -/
theorem ownSems0_eq (c : Dev nD) : (Pipeline.ownSems0 (Ix := Unit) (Name := ℕ) (U := UU) (Lvl := ℕ) (Val := Elt F) (τ := τ) osem c : sProp 𝕄)
    = iprop(semVal (extCell c) 0 ∗ (bigSep Finset.univ fun k : Fin 8 => semVal ((c : Thread nD τ), .dma (wS k)) 0)
        ∗ (semVal (sendCell c 0) 0 ∗ bigSep Finset.univ fun j => semVal (sendCell c (tslot j)) 0)
        ∗ (semVal (recvCell c 0) 0 ∗ bigSep Finset.univ fun j => semVal (recvCell c (rslot j)) 0)) := by
  unfold Pipeline.ownSems0
  rw [bigSep_univ_sum, bigSep_univ_sum, bigSep_univ_sum,
    ← bigSep_zero tslot_cover tslot_inj (fun s => (semVal (sendCell c s) 0 : sProp 𝕄)),
    ← bigSep_zero rslot_cover rslot_inj (fun s => (semVal (recvCell c s) 0 : sProp 𝕄)),
    show (Finset.univ : Finset Unit) = {()} from rfl, bigSep_singleton]
  rfl

omit [FloatOps F] in
/-- The entry semaphore is the launch's one. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The tokens -/

/-- The tokens device `c` pays with: at each turn one of an entry, an exit, a send and an arrival cell. -/
abbrev tokOf (x : Dev nD × Fin 15 × Fin 4) : GSem nD τ sig × ℕ × Fin 16 := match x.2.2 with
  | 0 => (barCell (peer x.1 x.2.1), 0, idx (peer x.1 x.2.1) x.1)
  | 1 => (extCell (peer x.1 x.2.1), 0, idx (peer x.1 x.2.1) x.1)
  | 2 => (sendCell x.1 (tslot x.2.1), 0, 0)
  | 3 => (recvCell (tgt x.1 x.2.1) (tslot x.2.1), 0, 0)

/-- A kind for each semaphore. -/
def kindOf : SemLoc sig → ℕ
  | .reg r => if r = barS then 0 else 1
  | .dma q => if q.val < 26 then 2 else 3

theorem kind_tokOf (x : Dev nD × Fin 15 × Fin 4) : kindOf (tokOf x).1.2 = x.2.2.val := by
  obtain ⟨c, d, k⟩ := x
  fin_cases k
  · rfl
  · show (if extS = barS then 0 else 1) = 1; exact if_neg (by decide)
  · exact if_pos (by show 10 + (tslot d).val < 26; omega)
  · exact if_neg (by show ¬ 26 + (tslot d).val < 26; omega)

/-- The signaller and its turn are known from the cell signalled and the duty. -/
theorem peer_pair {c c' : Dev nD} {d d' : Fin 15} (h1 : peer c d = peer c' d')
    (h2 : idx (peer c d) c = idx (peer c' d') c') : c = c' ∧ d = d' := by
  have e : c = c' := by rw [← src_idx (peer c d) c, h2, h1, src_idx]
  subst e
  exact ⟨rfl, peer_inj c d d' (by rw [h1])⟩
/-- The sender and its turn are known from the slot filled. -/
theorem tgt_pair {c c' : Dev nD} {j j' : Fin 15} (h1 : tgt c j = tgt c' j') (h2 : tslot j = tslot j') : c = c' ∧ j = j' := by
  have e := tslot_inj h2
  subst e
  refine ⟨?_, rfl⟩
  rw [← src_neg c (ord j), ← src_neg c' (ord j)]; exact congrArg (fun t => src t (neg (ord j))) h1

theorem send_cell_inj {c c' : Dev nD} {s s' : Fin 16} (h : sendCell c s = sendCell c' s') : c = c' ∧ s = s' := by
  refine ⟨congrArg (fun g : GSem nD τ sig => g.1.1) h, ?_⟩
  have h' : SemLoc.dma (sendS s) = SemLoc.dma (sendS s') := congrArg (fun g : GSem nD τ sig => g.2) h
  have := congrArg Fin.val (SemLoc.dma.inj h')
  exact Fin.ext (by have : 10 + s.val = 10 + s'.val := this; omega)
theorem recv_cell_inj {c c' : Dev nD} {s s' : Fin 16} (h : recvCell c s = recvCell c' s') : c = c' ∧ s = s' := by
  refine ⟨congrArg (fun g : GSem nD τ sig => g.1.1) h, ?_⟩
  have h' : SemLoc.dma (recvS s) = SemLoc.dma (recvS s') := congrArg (fun g : GSem nD τ sig => g.2) h
  have := congrArg Fin.val (SemLoc.dma.inj h')
  exact Fin.ext (by have : 26 + s.val = 26 + s'.val := this; omega)

theorem tokOf_injective : Function.Injective tokOf := by
  rintro ⟨c, d, k⟩ ⟨c', d', k'⟩ h
  have hk : k = k' := Fin.ext (by
    have := kind_tokOf (c, d, k); rw [h, kind_tokOf] at this; exact this.symm)
  subst hk
  have h1 := congrArg (fun x : GSem nD τ sig × ℕ × Fin 16 => x.1.1.1) h
  have h2 := congrArg (fun x : GSem nD τ sig × ℕ × Fin 16 => x.2.2) h
  have h3 := congrArg (fun x : GSem nD τ sig × ℕ × Fin 16 => x.1) h
  have : c = c' ∧ d = d' := by
    fin_cases k
    · exact peer_pair h1 h2
    · exact peer_pair h1 h2
    · obtain ⟨e, e'⟩ := send_cell_inj h3; exact ⟨e, tslot_inj e'⟩
    · obtain ⟨e, e'⟩ := recv_cell_inj h3; exact tgt_pair e e'
  rw [this.1, this.2]

def toks : Finset (GSem nD τ sig × ℕ × Fin 16) := Finset.univ.map ⟨tokOf, tokOf_injective⟩

/-- The tokens of device `c`. -/
def payToks (c : Dev nD) : sProp 𝕄 :=
  iprop((bigSep Finset.univ fun d => dutyTok ER (barCell (peer c d)) 0 (idx (peer c d) c))
    ∗ (bigSep Finset.univ fun d => dutyTok ER (extCell (peer c d)) 0 (idx (peer c d) c))
    ∗ bigSep Finset.univ (sendTok c))

omit [FloatOps F] in
theorem toks_eq : bigSep toks (fun x => (dutyTok ER x.1 x.2.1 x.2.2 : sProp 𝕄)) = bigSep Finset.univ fun c => payToks c := by
  unfold toks
  rw [bigSep_map, bigSep_univ_prod]
  refine bigSep_congr fun c _ => ?_
  rw [bigSep_univ_prod]
  unfold payToks sendTok
  simp only [Function.Embedding.coeFn_mk]
  rw [bigSep_congr (s := Finset.univ) (fun (d : Fin 15) _ => bigSep_univ_eq_bigSepL [0, 1, 2, 3] (by decide) (by decide)
    (fun k : Fin 4 => (dutyTok ER (tokOf (c, d, k)).1 (tokOf (c, d, k)).2.1 (tokOf (c, d, k)).2.2 : sProp 𝕄)))]
  rw [← bigSep_sep', ← bigSep_sep']
  rfl

/-- The launch's element: the pipeline's, the exchange's, the counters'. -/
def u₀ : UU :=
  (initOf (Pipeline.cells cfgs cellOf_inj) (Pipeline.launchToks cfgs cellOf_inj), (initOf cells toks, 1))

omit [FloatOps F] in
theorem u₀_split : (ownU u₀ : sProp 𝕄) ⊢ iprop(BI.own (EP (initOf (Pipeline.cells cfgs cellOf_inj) (Pipeline.launchToks cfgs cellOf_inj)))
    ∗ BI.own (ER (initOf cells toks))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (initOf cells toks, (1 : Counters)))))

/-! ## The deal -/

/-- What the launch's element gives device `c`. -/
def G (c : Dev nD) : sProp 𝕄 :=
  iprop((bigSep Finset.univ fun i : Fin 32 => roundState ER (Rd m ρ) (kcell (c, i)) 0)
    ∗ (bigSep Finset.univ fun i : Fin 32 => reached ER (kcell (c, i)) 0)
    ∗ (bigSep Finset.univ fun i : Fin 32 => atPos ER (kcell (c, i)) 0 ∅ 0) ∗ payToks c)

theorem fund_all : BI.own (ER (initOf cells toks)) ⊢ (|==> bigSep Finset.univ (G m ρ) : sProp 𝕄) := by
  iintro HX
  imod (Rounds.fund ER (Rd m ρ) cells toks) $$ HX with ⟨Hst, Hr, Hat, Htok⟩
  imodintro
  ihave Hst' := (Entails.of_eq (bigSep_cells fun g => roundState ER (Rd m ρ) g 0)) $$ Hst
  ihave Hat' := (Entails.of_eq (bigSep_cells fun g => atPos ER g 0 ∅ 0)) $$ Hat
  ihave Hr' := (Entails.of_eq (bigSep_cells fun g => reached ER g 0)) $$ Hr
  ihave Htok' := (Entails.of_eq toks_eq) $$ Htok
  unfold G; simp only [bigSep_sep']
  isplitl [Hst']; · iexact Hst'
  isplitl [Hr']; · iexact Hr'
  isplitl [Hat'] <;> iassumption

/-- Every cell's invariant, and that its round is reached. -/
def Invs (K : GSem nD τ sig → ℕ) : sProp 𝕄 :=
  bigSep cells fun g => iprop(cellInv ER (Rd m ρ) (K g) g ∗ reached ER g 0)
instance Invs_persistent (K : GSem nD τ sig → ℕ) : BI.Persistent (Invs (F := F) m ρ K) := by unfold Invs; infer_instance

/-- The semaphores of device `c` that are no cell's: the stream's and the two unused ones. -/
def loose (c : Dev nD) : sProp 𝕄 :=
  iprop((bigSep Finset.univ fun k : Fin 8 => semVal ((c : Thread nD τ), .dma (wS k)) 0) ∗ semVal (sendCell c 0) 0 ∗ semVal (recvCell c 0) 0)

/-- What is device `c`'s alone: its positions, its tokens, its semaphores that are no cell's. -/
def own₀ (c : Dev nD) : sProp 𝕄 :=
  iprop((bigSep Finset.univ fun i : Fin 32 => atPos ER (kcell (c, i)) 0 ∅ 0) ∗ payToks c ∗ loose c)

/-- What device `c` has after the invariants are made. -/
def G' (c : Dev nD) : sProp 𝕄 := iprop(∃ K, Invs m ρ K ∗ own₀ c)

omit [FloatOps F] in
theorem sems_split (c : Dev nD) :
    iprop(Pipeline.ownSems0 (Ix := Unit) (Name := ℕ) (U := UU) (Lvl := ℕ) (Val := Elt F) (τ := τ) osem c ∗ unscopedSems0 c)
      ⊢ iprop((bigSep Finset.univ fun i : Fin 32 => (semVal (kcell (c, i)) 0 : sProp 𝕄)) ∗ loose c) := by
  rw [ownSems0_eq, unscopedSems0_eq, bigSep_kcell c fun g => semVal g 0]
  unfold loose
  iintro ⟨⟨HE, HW, ⟨HS0, HS⟩, HV0, HV⟩, HB⟩
  isplitl [HE HB HS HV]
  · isplitl [HB]; · iexact HB
    isplitl [HE]; · iexact HE
    isplitl [HS] <;> iassumption
  isplitl [HW]; · iexact HW
  isplitl [HS0] <;> iassumption

omit [FloatOps F] in
/-- A persistent assertion goes to every device. -/
theorem deal {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

/-- The invariants are made and dealt. -/
theorem glob : (bigSep Finset.univ fun c => iprop(Pipeline.ownSems0 (Ix := Unit) (Name := ℕ) (U := UU) (Lvl := ℕ) (Val := Elt F) (τ := τ) osem c
      ∗ unscopedSems0 c ∗ G m ρ c) : sProp 𝕄)
    ⊢ |={Set.univ}=> bigSep Finset.univ (G' m ρ) := by
  have h : ∀ c : Dev nD, iprop(Pipeline.ownSems0 (Ix := Unit) (Name := ℕ) (U := UU) (Lvl := ℕ) (Val := Elt F) (τ := τ) osem c ∗ unscopedSems0 c ∗ G m ρ c)
      ⊢ iprop((bigSep Finset.univ fun i : Fin 32 => (semVal (kcell (c, i)) 0 : sProp 𝕄))
          ∗ (bigSep Finset.univ fun i : Fin 32 => roundState ER (Rd m ρ) (kcell (c, i)) 0)
          ∗ (bigSep Finset.univ fun i : Fin 32 => reached ER (kcell (c, i)) 0) ∗ own₀ c) := fun c => by
    unfold G own₀
    iintro ⟨Ho, Hu, Hst, Hr, Hat, Htk⟩
    ihave Hs := (sems_split (F := F) c) $$ [Ho Hu]
    · isplitl [Ho] <;> iassumption
    icases Hs with ⟨Hs, Hl⟩
    isplitl [Hs]; · iexact Hs
    isplitl [Hst]; · iexact Hst
    isplitl [Hr]; · iexact Hr
    isplitl [Hat]; · iexact Hat
    isplitl [Htk] <;> iassumption
  refine (bigSep_mono fun c _ => h c).trans ?_
  rw [bigSep_sep', bigSep_sep', bigSep_sep', ← bigSep_cells fun g => semVal g 0, ← bigSep_cells fun g => roundState ER (Rd m ρ) g 0,
    ← bigSep_cells fun g => reached ER g 0]
  show iprop(bigSep cells (fun g => semVal g 0) ∗ bigSep cells (fun g => roundState ER (Rd m ρ) g 0) ∗ bigSep cells (fun g => reached ER g 0)
      ∗ bigSep Finset.univ own₀) ⊢ |={Set.univ}=> bigSep Finset.univ (G' m ρ)
  iintro ⟨Hv, Hst, #Hr, Hown⟩
  imod ((Rounds.bodies_intro ER (Rd m ρ) cells).trans (inv_alloc_family cells (Rounds.body ER (Rd m ρ)) ∅ (E := Set.univ))) $$ [Hv Hst] with ⟨%K, -, #HI⟩
  · isplitl [Hv] <;> iassumption
  imodintro
  iapply (deal (R := Invs m ρ K) (Φ := own₀) fun c => show _ ⊢ G' m ρ c from by
    unfold G'; iintro H; iexists K; iexact H)
  isplitr
  · unfold Invs; rw [bigSep_sep']
    isplitl
    · iexact HI
    · iexact Hr
  · iexact Hown

/-! ## The launch credit -/

/-- How many turns of all devices go to cell `g`, turn `j` of device `d` going to `gs d j`. -/
def turns (gs : Dev nD → Fin 15 → GSem nD τ sig) (g : GSem nD τ sig) : ℕ := ∑ d, ∑ j, if g = gs d j then 1 else 0

theorem owed_turns (gs : Dev nD → Fin 15 → GSem nD τ sig) (k : ℕ) (g : GSem nD τ sig) :
    ∑ d, (∑ j ∈ rest 0, tallyAt (gs d j) () k : CellTallies nD τ sig Unit) g () = k * turns gs g := by
  unfold turns
  rw [Finset.mul_sum]
  refine Finset.sum_congr rfl fun d _ => ?_
  rw [Finset.mul_sum, rest_zero, Finset.sum_apply, Finsupp.finset_sum_apply]
  refine Finset.sum_congr rfl fun j _ => ?_
  rw [tallyAt_apply]
  by_cases h : g = gs d j
  · rw [if_pos ⟨h, rfl⟩, if_pos h, mul_one]
  · rw [if_neg fun h' => h h'.1, if_neg h, mul_zero]

/-- What all devices owe a cell. -/
theorem owed_cell (g : GSem nD τ sig) : ∑ d, debt d 0 0 0 g ()
    = 1 * turns (fun d j => barCell (peer d j)) g
      + (N * turns (fun d j => recvCell (tgt d j) (tslot j)) g + 1 * turns (fun d j => extCell (peer d j)) g) := by
  rw [← owed_turns, ← owed_turns, ← owed_turns, ← Finset.sum_add_distrib, ← Finset.sum_add_distrib]
  refine Finset.sum_congr rfl fun d _ => ?_
  unfold debt
  rw [Pi.add_apply, Finsupp.add_apply, Pi.add_apply, Finsupp.add_apply]

theorem turns_none {gs : Dev nD → Fin 15 → GSem nD τ sig} {g : GSem nD τ sig} (h : ∀ d j, kindOf g.2 ≠ kindOf (gs d j).2) : turns gs g = 0 :=
  Finset.sum_eq_zero fun d _ => Finset.sum_eq_zero fun j _ => if_neg fun e => h d j (by rw [e])
theorem turns_congr {gs : Dev nD → Fin 15 → GSem nD τ sig} {g : GSem nD τ sig} {p : Dev nD → Fin 15 → Prop} [∀ d j, Decidable (p d j)]
    (h : ∀ d j, g = gs d j ↔ p d j) : turns gs g = ∑ d, ∑ j, if p d j then 1 else 0 :=
  Finset.sum_congr rfl fun d _ => Finset.sum_congr rfl fun j _ => if_congr (h d j) rfl rfl

theorem peer_turns : ∀ c : Dev nD, (∑ d : Dev nD, ∑ j : Fin 15, if c = peer d j then 1 else 0) = 15 := by decide +kernel
theorem tgt_turns (c : Dev nD) (i : Fin 15) : (∑ d : Dev nD, ∑ j : Fin 15, if c = tgt d j ∧ tslot i = tslot j then 1 else 0) = 1 := by
  rw [Finset.sum_eq_single (src c (tslot i)), Finset.sum_eq_single i]
  · exact if_pos ⟨(src_neg c (tslot i)).symm.trans (by unfold tgt; exact congrArg (src _) (neg_neg (ord i))), rfl⟩
  · exact fun j _ hj => if_neg fun h => hj (tslot_inj h.2.symm)
  · exact fun h => absurd (Finset.mem_univ _) h
  · intro d _ hd
    refine Finset.sum_eq_zero fun j _ => if_neg fun h => hd ?_
    rw [h.1, h.2]; exact (src_neg d (ord j)).symm
  · exact fun h => absurd (Finset.mem_univ _) h

theorem kind_bar (c : Dev nD) : kindOf (barCell c).2 = 0 := rfl
theorem kind_ext (c : Dev nD) : kindOf (extCell c).2 = 1 := by show (if extS = barS then 0 else 1) = 1; exact if_neg (by decide)
theorem kind_recv (c : Dev nD) (s : Fin 16) : kindOf (recvCell c s).2 = 3 := if_neg (by show ¬ 26 + s.val < 26; omega)

theorem owed_bar (c : Dev nD) : ∑ d, debt d 0 0 0 (barCell c) () = 15 := by
  rw [owed_cell, turns_none (gs := fun d j => recvCell _ _) (fun d j => by rw [kind_bar, kind_recv]; decide),
    turns_none (gs := fun d j => extCell _) (fun d j => by rw [kind_bar, kind_ext]; decide),
    turns_congr (p := fun d j => c = peer d j) (fun d j => ⟨fun h => congrArg (fun g : GSem nD τ sig => g.1.1) h, fun h => by rw [h]⟩), peer_turns]
  simp only [mul_zero, add_zero, zero_add, one_mul]
theorem owed_ext (c : Dev nD) : ∑ d, debt d 0 0 0 (extCell c) () = 15 := by
  rw [owed_cell, turns_none (gs := fun d j => recvCell _ _) (fun d j => by rw [kind_ext, kind_recv]; decide),
    turns_none (gs := fun d j => barCell _) (fun d j => by rw [kind_bar, kind_ext]; decide),
    turns_congr (p := fun d j => c = peer d j) (fun d j => ⟨fun h => congrArg (fun g : GSem nD τ sig => g.1.1) h, fun h => by rw [h]⟩), peer_turns]
  simp only [mul_zero, add_zero, zero_add, one_mul]
theorem owed_recv (c : Dev nD) (i : Fin 15) : ∑ d, debt d 0 0 0 (recvCell c (tslot i)) () = N := by
  rw [owed_cell, turns_none (gs := fun d j => barCell _) (fun d j => by rw [kind_bar, kind_recv]; decide),
    turns_none (gs := fun d j => extCell _) (fun d j => by rw [kind_recv, kind_ext]; decide),
    turns_congr (p := fun d j => c = tgt d j ∧ tslot i = tslot j) (fun d j => ⟨fun h => recv_cell_inj h, fun h => by rw [h.1, h.2]⟩), tgt_turns]
  simp only [mul_one, mul_zero, add_zero, zero_add]

/-- The launch credit of a cell that is owed `k`. -/
theorem credit_eq {g : GSem nD τ sig} {k : ℕ} (h : ∑ d, debt d 0 0 0 g () = k) :
    tallyOn g (launchCredit (Pipeline.owing fun d => debt d 0 0 0) 0 g) = (tallyAt g () k : CellTallies nD τ sig Unit) := by
  unfold tallyAt; refine congrArg _ (Finsupp.ext fun u => ?_); cases u
  rw [Pipeline.launchCredit_owing, Finsupp.single_eq_same, h]

abbrev dmaRecv (j : Fin 15) : SemLoc sig := .dma (recvS (rslot j))
theorem dmaRecv_inj : Function.Injective dmaRecv := by decide +kernel
theorem bar_notMem : SemLoc.reg barS ∉ insert (SemLoc.reg extS) (Finset.univ.image dmaRecv) := by decide +kernel
theorem ext_notMem : (SemLoc.reg extS : SemLoc sig) ∉ Finset.univ.image dmaRecv := by decide +kernel
theorem rslot_eq : ∀ j : Fin 15, ∃ i, rslot j = tslot i := by decide +kernel

/-- Device `c`'s credit: for the entry, the exit and the arrivals. -/
def creds (c : Dev nD) : sProp 𝕄 :=
  iprop(cred (tallyAt (barCell c) () 15) ∗ cred (tallyAt (extCell c) () 15)
    ∗ bigSep Finset.univ fun j => cred (tallyAt (recvCell c (rslot j)) () N))

omit [FloatOps F] in
theorem creds_intro (c : Dev nD) : (Pipeline.launchCred (fun d => debt d 0 0 0) c : sProp 𝕄) ⊢ creds c := by
  unfold Pipeline.launchCred creds
  refine (bigSep_subset (Finset.subset_univ (insert (SemLoc.reg barS) (insert (SemLoc.reg extS) (Finset.univ.image dmaRecv))))).trans ?_
  rw [bigSep_insert bar_notMem, bigSep_insert ext_notMem, bigSep_image_of_injOn (fun _ _ _ _ e => dmaRecv_inj e),
    credit_eq (owed_bar c), credit_eq (owed_ext c),
    bigSep_congr (s := Finset.univ) (fun (j : Fin 15) _ => congrArg (fun x => (cred x : sProp 𝕄)) (credit_eq (g := recvCell c (rslot j)) (k := N) (by
      obtain ⟨i, e⟩ := rslot_eq j; rw [e]; exact owed_recv c i)))]
  exact Entails.refl _

end Cert.Exchange

end
-- ==== Proof.Launch.lean ====
/-
# The run of the whole program

What the launch deals becomes the state the body starts from; what the body ends with is what the launch takes back.
-/
module

public import proofs.«01_k».proof.Proof.Deal

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Buffers cut into blocks at any contents -/

omit [FloatOps F] in
theorem any_intro {ℓ : Loc nD τ sig} (I : Finset ℓ.2.ty.shape.Idx) (f : Buf (Elt F) ℓ) :
    (ℓ ↦[I]{fullShare} f : sProp 𝕄) ⊢ iprop(∃ f : Buf (Elt F) ℓ, ℓ ↦[I]{fullShare} f) := by
  iintro H; iexists f; iexact H

omit [FloatOps F] in
/-- A buffer at some contents is its blocks, each at some contents; -/
theorem blocks_any {ℓ : Loc nD τ sig} {B : Type} [Fintype B] [DecidableEq B] (I : B → Finset ℓ.2.ty.shape.Idx)
    (hd : ∀ b b', b ≠ b' → Disjoint (I b) (I b')) (hc : Finset.univ.biUnion I = Finset.univ) :
    (iprop(∃ f : Buf (Elt F) ℓ, ℓ ↦{fullShare} f) : sProp 𝕄) ⊢ bigSep Finset.univ fun b => iprop(∃ f : Buf (Elt F) ℓ, ℓ ↦[I b]{fullShare} f) := by
  iintro ⟨%f, H⟩
  ihave H' := (Entails.of_eq (Ring.pointsTo_blocks I hd hc f)) $$ H
  iapply (show (bigSep Finset.univ (fun b => ℓ ↦[I b]{fullShare} f) : sProp 𝕄) ⊢ bigSep Finset.univ fun b => iprop(∃ f : Buf (Elt F) ℓ, ℓ ↦[I b]{fullShare} f) from
    bigSep_mono fun b _ => any_intro (I b) f)
  iexact H'

/-- and the other way round. -/
theorem blocks_join {ℓ : Loc nD τ sig} {B : Type} [Fintype B] [DecidableEq B] (I : B → Finset ℓ.2.ty.shape.Idx)
    (hd : ∀ b b', b ≠ b' → Disjoint (I b) (I b')) (hc : Finset.univ.biUnion I = Finset.univ) :
    (bigSep Finset.univ fun b => iprop(∃ f : Buf (Elt F) ℓ, ℓ ↦[I b]{fullShare} f) : sProp 𝕄) ⊢ iprop(∃ f : Buf (Elt F) ℓ, ℓ ↦{fullShare} f) :=
  Ring.pointsTo_blocks_join_exists I hd hc (fun _ => Classical.choice inferInstance)

/-- The buffers a device starts and ends with. -/
def gBuf (c : Dev nD) : sProp 𝕄 := iprop(∃ f : Buf (Elt F) ((c : Thread nD τ).loc cc0_scratch1), ((c : Thread nD τ).loc cc0_scratch1) ↦{fullShare} f)
def sBuf (c : Dev nD) : sProp 𝕄 := iprop(∃ f : Buf (Elt F) ((c : Thread nD τ).loc cc0_scratch2), ((c : Thread nD τ).loc cc0_scratch2) ↦{fullShare} f)
def wBuf (c : Dev nD) : sProp 𝕄 := ((c : Thread nD τ).loc main_arg1) ↦{fullShare} (warr m ρ c : Buf (Elt F) ((c : Thread nD τ).loc main_arg1))

omit [FloatOps F] in
theorem gBuf_slots (c : Dev nD) : gBuf (F := F) c ⊢ bigSep Finset.univ (slotAny c) :=
  blocks_any (ℓ := (c : Thread nD τ).loc cc0_scratch1) gSet gSlot_disj gSlot_cover
theorem gBuf_join (c : Dev nD) : bigSep Finset.univ (slotAny c) ⊢ gBuf (F := F) c :=
  blocks_join (ℓ := (c : Thread nD τ).loc cc0_scratch1) gSet gSlot_disj gSlot_cover
omit [FloatOps F] in
theorem sBuf_slots (c : Dev nD) : sBuf (F := F) c ⊢ bigSep Finset.univ (strAny c) :=
  blocks_any (ℓ := (c : Thread nD τ).loc cc0_scratch2) sSet sSlot_disj sSlot_cover
theorem sBuf_join (c : Dev nD) : bigSep Finset.univ (strAny c) ⊢ sBuf (F := F) c :=
  blocks_join (ℓ := (c : Thread nD τ).loc cc0_scratch2) sSet sSlot_disj sSlot_cover
theorem Bs_join (c : Dev nD) : bigSep Finset.univ (rowAny c) ⊢ Bs (F := F) c :=
  blocks_join (ℓ := (c : Thread nD τ).loc cc0_scratch0) bSet bRow_disj bRow_cover

/-- The right operand is the row blocks of the sixteen items, two for each slot of the stream. -/
theorem wBuf_rows (c : Dev nD) : wBuf m ρ c = bigSep Finset.univ fun k : Fin 8 => iprop(rowW m ρ c k.val ∗ rowW m ρ c (k.val + 8)) := by
  have e (s : Fin 16) : it s.val = s := Fin.ext (Nat.mod_eq_of_lt s.isLt)
  have e0 (k : Fin 8) : it k.val = (finSumFinEquiv : Fin 8 ⊕ Fin 8 ≃ Fin 16) (.inl k) := Fin.ext (Nat.mod_eq_of_lt (by show k.val < 16; omega))
  have e1 (k : Fin 8) : it (k.val + 8) = (finSumFinEquiv : Fin 8 ⊕ Fin 8 ≃ Fin 16) (.inr k) :=
    Fin.ext ((Nat.mod_eq_of_lt (by omega)).trans (Nat.add_comm _ _))
  unfold wBuf
  rw [Ring.pointsTo_blocks wSet wRow_disj wRow_cover, bigSep_univ_equiv (around c), bigSep_univ_equiv (finSumFinEquiv : Fin 8 ⊕ Fin 8 ≃ Fin 16), bigSep_univ_sum, bigSep_sep']
  refine congrArg₂ _ (bigSep_congr fun k _ => ?_) (bigSep_congr fun k _ => ?_)
  · unfold rowW; rw [e0]; rfl
  · unfold rowW; rw [e1]; rfl

/-! ## Into the body and out of it -/

/-- The stream at the start; -/
theorem str_intro (c : Dev nD) : iprop(sBuf c ∗ (bigSep Finset.univ fun k : Fin 8 => semVal ((c : Thread nD τ), .dma (wS k)) 0) ∗ wBuf m ρ c)
    ⊢ Str m ρ c 0 0 := by
  unfold Str
  rw [wBuf_rows, bigSep_congr (s := Finset.univ) (fun (k : Fin 8) _ => show slotSt m ρ c 0 0 k = Free m ρ c k from if_pos (Nat.zero_le _))]
  unfold Free
  rw [bigSep_sep' Finset.univ (strAny c), bigSep_sep' Finset.univ fun k => semVal ((c : Thread nD τ), .dma (wS k)) 0]
  iintro ⟨HS, HV, HW⟩
  isplitl [HS]; · iapply (sBuf_slots c); iexact HS
  isplitl [HV] <;> iassumption

/-- and at the end. -/
theorem str_elim (c : Dev nD) : Str m ρ c 16 16
    ⊢ iprop(sBuf c ∗ (bigSep Finset.univ fun k : Fin 8 => semVal ((c : Thread nD τ), .dma (wS k)) 0) ∗ wBuf m ρ c) := by
  have e (k : Fin 8) : slotSt m ρ c 16 16 k ⊢ iprop(strAny c k ∗ semVal ((c : Thread nD τ), .dma (wS k)) 0 ∗ rowW m ρ c k.val ∗ rowW m ρ c (k.val + 8)) := by
    have h : cur 16 k.val = k.val + 8 := if_neg (by omega)
    unfold slotSt
    rw [if_neg (by omega), h, if_neg (by omega)]
    unfold Full; rw [rowW_wrap]
    iintro ⟨HF, HV, H1, H2⟩
    isplitl [HF]; · iapply (strFull_any m ρ c (k.val + 8) k); iexact HF
    isplitl [HV]; · iexact HV
    isplitl [H2] <;> iassumption
  unfold Str
  refine (bigSep_mono fun k _ => e k).trans ?_
  rw [wBuf_rows, bigSep_sep' Finset.univ (strAny c), bigSep_sep' Finset.univ fun k => semVal ((c : Thread nD τ), .dma (wS k)) 0]
  exact sep_mono_left (sBuf_join c)

/-- What device `c` is at the start, `K` naming the cells' invariants. -/
def entry (K : GSem nD τ sig → ℕ) (c : Dev nD) : sProp 𝕄 :=
  iprop(Invs m ρ K ∗ own₀ c ∗ creds c ∗ levAts L lv ∗ wBuf m ρ c ∗ Bs c ∗ gBuf c ∗ sBuf c
    ∗ (∃ Wt, owes (c : Thread nD τ) (debt c 0 0 0) Wt) ∗ Xs m ρ c ∗ Out0 c)

/-- It is the body's first state, and the unused slot and semaphores. -/
theorem entry_state (K : GSem nD τ sig → ℕ) (c : Dev nD) :
    entry m ρ K c ⊢ iprop(Sa m ρ K c 0 0 iprop(Xs m ρ c ∗ Bs c) ∗ Idle c) := by
  unfold entry own₀ creds payToks loose Idle Sa St Recs Bar Ext Snd0 Rcv sendPos
  rw [bigSep_kcell c fun g => atPos ER g 0 ∅ 0, rest_zero, done_zero, bigSep_empty, bigSep_sep' Finset.univ (fun d => dutyTok ER (barCell (peer c d)) 0 (idx (peer c d) c)), bigSep_sep' Finset.univ fun j => atPos ER (recvCell c (rslot j)) 0 ∅ 0]
  iintro ⟨#HI, ⟨⟨HaB, HaE, HaS, HaV⟩, ⟨HtB, HtE, HtS⟩, HvW, Hs0, Hv0⟩, ⟨HcB, HcE, HcV⟩, #HL, HW, HBs, HG, HS, HO, HX, Hout⟩
  ihave Hg := (gBuf_slots c) $$ HG
  ihave Hg' := (Entails.of_eq (bigSep_zero (peer_cover c) (fun a b h => peer_inj c a b h) (slotAny c))) $$ Hg
  icases Hg' with ⟨Hg0, Hg⟩
  ihave Hstr := (str_intro m ρ c) $$ [HS HvW HW]
  · isplitl [HS]; · iexact HS
    isplitl [HvW] <;> iassumption
  isplitr [Hg0 Hs0 Hv0]
  · isplitr
    · isplitl
      · unfold Invs; iexact HI
      · iexact HL
    isplitl [HO]; · iexact HO
    isplitl [Hstr]; · iexact Hstr
    isplitl [HtB Hg HaB HcB]
    · isplitl [HtB Hg]
      · isplitl [HtB] <;> iassumption
      isplitl [HaB] <;> iassumption
    isplitl [HX HBs]
    · isplitl [HX] <;> iassumption
    isplitl [HtS HaS]
    · isplitl [HtS] <;> iassumption
    isplitl [HaV HcV]
    · isplitl [HaV HcV]
      · isplitl [HaV] <;> iassumption
      iempintro
    isplitl [Hout]; · iexact Hout
    isplitl [HtE]; · iexact HtE
    isplitl [HaE] <;> iassumption
  isplitl [Hg0]; · iexact Hg0
  isplitl [Hs0] <;> iassumption

/-- What device `c` ends with, beside the staged operand and the result. -/
def leave (c : Dev nD) : sProp 𝕄 :=
  iprop(semVal (barCell c) 0 ∗ wBuf m ρ c
    ∗ (semVal (extCell c) 0 ∗ (bigSep Finset.univ fun k : Fin 8 => semVal ((c : Thread nD τ), .dma (wS k)) 0)
        ∗ (semVal (sendCell c 0) 0 ∗ bigSep Finset.univ fun j => semVal (sendCell c (tslot j)) 0)
        ∗ (semVal (recvCell c 0) 0 ∗ bigSep Finset.univ fun j => semVal (recvCell c (rslot j)) 0))
    ∗ Bs c ∗ gBuf c ∗ sBuf c)

/-- The body's last state, with the unused slot and semaphores, is that. -/
theorem last_leave (K : GSem nD τ sig → ℕ) (c : Dev nD) :
    iprop(St m ρ K c 15 15 15 (Str m ρ c 16 16) (semVal (barCell c) 0) (Xs m ρ c) (Snd2 m ρ c 15) (Rcv m ρ c 15) (Out m ρ c 15) (semVal (extCell c) 0) ∗ Idle c)
      ⊢ iprop(leave m ρ c ∗ (∃ Wt, owes (c : Thread nD τ) 0 Wt) ∗ Xs m ρ c ∗ Out m ρ c 15) := by
  unfold St Snd2 Rcv Idle leave sendEnd
  rw [debt_none, rest_all, bigSep_empty, bigSep_empty, done_all, bigSep_sep', bigSep_sep']
  iintro ⟨⟨-, HO, Hstr, HB, HX, ⟨-, ⟨Hs, Hrow⟩, Hown⟩, ⟨-, Hv, Hslot⟩, Hout, HE⟩, Hg0, Hs0, Hv0⟩
  ihave HS := (str_elim m ρ c) $$ Hstr
  icases HS with ⟨HS, HvW, HW⟩
  ihave Hg := (show (iprop(slotAny c 0 ∗ bigSep Finset.univ fun j => slotFull m ρ c (rslot j)) : sProp 𝕄) ⊢ gBuf c from by
    refine (sep_mono_right (bigSep_mono fun j _ => slotFull_any m ρ c (rslot j))).trans ?_
    rw [← bigSep_zero rslot_cover rslot_inj (slotAny c)]
    exact gBuf_join c) $$ [Hg0 Hslot]
  · isplitl [Hg0] <;> iassumption
  ihave HBs := (show (iprop(rowFull m ρ c c ∗ bigSep Finset.univ fun j => rowAny c (tgt c j)) : sProp 𝕄) ⊢ Bs c from by
    refine (sep_mono_left (rowFull_any m ρ c c)).trans ((Entails.of_eq ?_).trans (Bs_join c))
    rw [bigSep_univ_equiv (around c), bigSep_zero ord_cover ord_inj]
    show _ = iprop(rowAny c (src c 0) ∗ bigSep Finset.univ fun j => rowAny c (tgt c j))
    rw [src_zero]) $$ [Hown Hrow]
  · isplitl [Hown] <;> iassumption
  isplitr [HO HX Hout]
  · isplitl [HB]; · iexact HB
    isplitl [HW]; · iexact HW
    isplitl [HE HvW Hs0 Hs Hv0 Hv]
    · isplitl [HE]; · iexact HE
      isplitl [HvW]; · iexact HvW
      isplitl [Hs0 Hs]
      · isplitl [Hs0] <;> iassumption
      isplitl [Hv0] <;> iassumption
    isplitl [HBs]; · iexact HBs
    isplitl [Hg] <;> iassumption
  isplitl [HO]; · iexact HO
  isplitl [HX] <;> iassumption

/-! ## The pipeline's data -/

/-- What device `c` brings to the pipeline. -/
def start (c : Dev nD) : sProp 𝕄 := iprop(G' m ρ c ∗ creds c ∗ levAts L lv ∗ wBuf m ρ c)
def Φ₀ (c : Dev nD) : sProp 𝕄 := iprop(start m ρ c ∗ Bs c ∗ gBuf c ∗ sBuf c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => acc m ρ c 15
  Φ t := match t with
    | ⟨0, _⟩ => Φ₀ m ρ c
    | ⟨_ + 1, _⟩ => leave m ρ c
  q _ := fullShare
  owed t := match t with
    | ⟨0, _⟩ => debt c 0 0 0
    | ⟨_ + 1, _⟩ => 0

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(leave m ρ c ∗ (dats m ρ 0 c).owesAt () t0_0.succ ∗ stg c cc0_stg0_0 (xstg m ρ c) ∗ stg c cc0_stg1_0 (acc m ρ c 15))

theorem pre_entry (c : Dev nD) : bodyPre m ρ c ⊢ iprop(∃ K, entry m ρ K c) := by
  unfold bodyPre Φ₀ start G' Dat.owesAt Pipeline.owesWithin entry Xs Out0
  rw [show (dats m ρ 0 c).owed t0_0.castSucc = debt c 0 0 0 from rfl]
  iintro ⟨⟨⟨⟨%K, HI, Hown⟩, Hcr, HL, HW⟩, HBs, Hg, Hs⟩, ⟨%Wt, -, HO⟩, ⟨%d0, %g0, %hg0, Hx⟩, ⟨%d1, %g1, -, Hout⟩⟩
  have hx : g0 = xstg m ρ c := by
    rw [hg0]; unfold Dat.before; rw [if_pos (fetch0_0 t0_0)]; rfl
  subst hx
  iexists K
  isplitl [HI]; · iexact HI
  isplitl [Hown]; · iexact Hown
  isplitl [Hcr]; · iexact Hcr
  isplitl [HL]; · iexact HL
  isplitl [HW]; · iexact HW
  isplitl [HBs]; · iexact HBs
  isplitl [Hg]; · iexact Hg
  isplitl [Hs]; · iexact Hs
  isplitl [HO]; · iexists Wt; iexact HO
  isplitl [Hx]; · iexact Hx
  iexists g1; iexact Hout

theorem leave_post (c : Dev nD) : iprop(leave m ρ c ∗ (∃ Wt, owes (c : Thread nD τ) 0 Wt) ∗ Xs m ρ c ∗ Out m ρ c 15) ⊢ bodyPost m ρ c := by
  unfold bodyPost Dat.owesAt Pipeline.owesWithin Xs Out
  rw [show (dats m ρ 0 c).owed t0_0.succ = 0 from rfl]
  iintro ⟨Hl, ⟨%Wt, HO⟩, Hx, Hout⟩
  isplitl [Hl]; · iexact Hl
  isplitl [HO]
  · iexists Wt
    isplitr; · ipureintro; exact fun _ _ => Or.inl trivial
    iexact HO
  isplitl [Hx]
  · iexists (xstg m ρ c); isplitr; · (ipureintro; rfl)
    iexact Hx
  iexists (acc m ρ c 15); isplitr; · (ipureintro; rfl)
  iexact Hout

/-- The body, from the pipeline's state before its one point to that after. -/
theorem body_sound (c : Dev nD) : bodyPre m ρ c ⊢ WP c (here (cc0_body (F := F))) fun _ => bodyPost m ρ c := by
  refine (pre_entry m ρ c).trans ?_
  iintro ⟨%K, H⟩
  iapply ((entry_state m ρ K c).trans ((sep_mono_left (body_all m ρ K c (P := fun _ => St m ρ K c 15 15 15 (Str m ρ c 16 16) (semVal (barCell c) 0)
    (Xs m ρ c) (Snd2 m ρ c 15) (Rcv m ρ c 15) (Out m ρ c 15) (semVal (extCell c) 0)) (Entails.refl _))).trans
    ((wp_frame_r _ _ _).trans (wp_mono _ _ _ fun _ => (last_leave m ρ K c).trans (leave_post m ρ c)))))
  iexact H

/-- The library's obligation on the body. -/
theorem body_obligation (c : Dev nD) : BodyObligation (dats (F := F) m ρ 0 c) (defs₀ (F := F)) 𝒱₀ () Set.univ := fun t => by
  rw [fin_N0 t, bigSep_W0, bigSep_W0]
  simp only [owns_whole]
  show bodyPre m ρ c ⊢ WP c (here (cc0_body (F := F))) fun _ => bodyPost m ρ c
  exact body_sound m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => debt d 0 0 0) c ∗ prngReg c (ρ c) ∗ G' m ρ c)
      ⊢ |={Set.univ}=> iprop(start m ρ c ∗ emp) := by
  rw [Pipeline.unscopedRestP_eq_of_list cfg0.spec c Pipeline.Prefetch.none _ [main_arg1] (by decide) (by decide)]
  show iprop((((c : Thread nD τ).loc main_arg1) ↦{fullShare} m ((c : Thread nD τ).loc main_arg1)) ∗ levAts L lv
        ∗ Pipeline.launchCred (fun d => debt d 0 0 0) c ∗ prngReg c (ρ c) ∗ G' m ρ c) ⊢ |={Set.univ}=> iprop(start m ρ c ∗ emp)
  iintro ⟨HW, HL, Hcr, -, HG⟩
  ihave Hc := (creds_intro (F := F) c) $$ Hcr
  imodintro
  unfold start wBuf warr
  isplitl
  · isplitl [HG]; · iexact HG
    isplitl [Hc]; · iexact Hc
    isplitl [HL]; · iexact HL
    iexact HW
  · iempintro

theorem first_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ Bs gBuf sBuf
  iintro ⟨Hs, -, H0, H1, H2⟩
  isplitl [Hs]; · iexact Hs
  isplitl [H0]; · iexact H0
  isplitl [H1] <;> iassumption

/-- What is read at the end: the entry semaphore and the right operand. -/
def kept (c : Dev nD) : sProp 𝕄 := iprop(unscopedSems0 c ∗ wBuf m ρ c)

theorem last_elim (c : Dev nD) :
    (dats m ρ 0 c).Φ (Fin.last cfg0.N) ⊢ iprop(kept m ρ c ∗ Pipeline.ownSems0 osem c ∗ Pipeline.scopedRest cfg0.spec c) := by
  rw [show (dats m ρ 0 c).Φ (Fin.last cfg0.N) = leave m ρ c from rfl, scopedRest0_eq, ownSems0_eq]
  unfold leave kept Bs gBuf sBuf
  rw [unscopedSems0_eq]
  iintro ⟨HB, HW, HS, H0, H1, H2⟩
  isplitl [HB HW]
  · isplitl [HB] <;> iassumption
  isplitl [HS]; · iexact HS
  isplitl [H0]; · iexact H0
  isplitl [H1] <;> iassumption

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of c _ 0 0 0 0 (by fin_cases w <;> fin_cases s <;> decide) (fun _ => Nat.one_pos) (fun _ => Nat.two_pos) (by decide)
    · show (levAts L lv : sProp 𝕄) ⊢ MayWait (c : Thread nD τ) _ () 0
      rw [MayWait_zero]; iintro -; iempintro

/-! ## The run -/

/-- The arrays after the run. -/
def finalA (c : Dev nD) (w : Fin cfg0.W) : Buf (Elt F) ((cfg0.win w).arr.view.loc (c : Thread nD τ)) := (dats m ρ 0 c).arrAt w cfg0.N

def QY (c : Dev nD) (s : MemSt nD τ sig (Elt F)) : Prop :=
  s.mem ((c : Thread nD τ).loc main_arg1) = m ((c : Thread nD τ).loc main_arg1)
    ∧ ∀ sm : SemLoc sig, sm.isScoped .tc = false → s.sem ((c.tc : Thread nD τ), sm) = 0

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

/-- For any float values, from any memory with all counters at zero, every weakly fair run of the program on the
    sixteen devices ends, with the arrays at the computed contents, the right operand as it was, and every counter
    at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := fun c => debt c 0 0 0) (howed₀ := fun _ => rfl) (howedN := fun _ => rfl)
    (L := L) (lv := lv) (hL := L_of_ne) (hwaits := waits m ρ)
    (G := G m ρ) (G' := G' m ρ) (u₀ := u₀)
    (hu₀ := by
      iintro Hu
      ihave H := (u₀_split) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := kept m ρ) (Z := fun _ => iprop(emp))
    (hX := start_intro m ρ) (hin := first_intro m ρ) (hout := last_elim m ρ)
    (QY := QY m)
    (hY := fun c s' => by
      unfold kept wBuf
      iintro ⟨⟨Hu, Hw⟩, -, HSI⟩
      icombine HSI Hw gives %h0
      imod (Pipeline.unscopedSems0_read (X := unscopedSems0 c) (c := c) fupd_intro s') $$ [Hu HSI] with ⟨%h1, HSI⟩
      · isplitl [Hu] <;> iassumption
      imodintro
      isplitr; · ipureintro; exact ⟨Buf.eq_of_forall_mem_univ h0, h1⟩
      iexact HSI)
    (hQ := fun _ h hs => ⟨fun c => ⟨(h c).1, (h c).2.2.1⟩, sem_eq_zero hs fun c => (h c).2.2.2⟩)

theorem finalA_in (c : Dev nD) : finalA m ρ c (0 : Fin 2) = (s₀ m ρ).mem (win0_0.arr.view.loc (c : Thread nD τ)) :=
  (dats (F := F) m ρ 0 c).arrAt_in (0 : Fin 2) rfl _

end Cert.Exchange

end
-- ==== Proof.Value.lean ====
/-
# What the result is, with extended reals for the floats

A device's sixteen partial products are the sixteen stretches of one long sum, taken in the order in which the device sees
the others; over the extended reals the order does not matter.
-/
module

public import proofs.«01_k».proof.Proof.Launch
public import proofs.«01_k».proof.Proof.Gen.ReferenceIdeal
public import Idealize.ShloMosaic.Lib.MatmulPlain
public import Idealize.ShloMosaic.Lib.StackMember
public import Idealize.ShloMosaic.Lib.Pointwise.Sums
public import Idealize.ShloMosaic.Lib.Pipeline.ValueKit.Geometry
public import Idealize.ShloMosaic.Lib.Layout

@[expose] public section

set_option maxRecDepth 16384

noncomputable section

namespace Cert.Exchange

open Cert.KernelIdeal Cert.KernelIdeal.Gen
open Idealize.ShloMosaic hiding ix2 eq_ix2
open Idealize.ShloMosaic.TcCoe Idealize.ShloMosaic.ValueIdx
open Idealize.SL.Sem
open scoped BigOperators

/-! ## The result buffer -/

section Any
variable {F : FTy → Type} [FloatOps F]
variable (m : (ℓ : Loc nD τ sig) → Buf (Elt F) ℓ) (ρ : Dev nD → PrngReg)

/-- The result array ends at what the sixteenth product left in its staging buffer. -/
theorem finalA_out (c : Dev nD) : finalA m ρ c (1 : Fin 2) = acc m ρ c 15 :=
  (dats m ρ 0 c).arrAt_eq_of_after_last (1 : Fin 2) t0_0 (by decide +kernel) (acc m ρ c 15) fun j => rfl

/-- Row `i` of block `d` of the narrowed left operand, -/
theorem xblk_apply (c d : Dev nD) (i k : Fin 256) :
    xblk m ρ c d (ix2 i k) = xbf m ρ c (ix2 ⟨256 * d.val + i.val, by have := d.isLt; have : nD = 16 := rfl; omega⟩ k) := by
  unfold xblk
  rw [View.read_apply]
  refine congrArg (xbf m ρ c) (funext fun a => Fin.ext ?_)
  match a with
  | ⟨0, _⟩ => show 256 * d.val + 1 * i.val = 256 * d.val + i.val; omega
  | ⟨1, _⟩ => show 0 + 1 * k.val = k.val; omega
/-- and of the right operand. -/
theorem wblk_apply (c d : Dev nD) (k : Fin 256) (j : Fin 2048) :
    wblk m ρ c d (ix2 k j)
      = m ((c : Thread nD τ).loc main_arg1) (ix2 (n0 := 4096) (n1 := 2048) ⟨256 * d.val + k.val, by have := d.isLt; have : nD = 16 := rfl; omega⟩ j) := by
  unfold wblk warr
  rw [View.read_apply]
  refine congrArg (m ((c : Thread nD τ).loc main_arg1)) (funext fun a => Fin.ext ?_)
  match a with
  | ⟨0, _⟩ => show 256 * d.val + 1 * k.val = 256 * d.val + k.val; omega
  | ⟨1, _⟩ => show 0 + 1 * j.val = j.val; omega

/-- The staged left operand is the argument. -/
theorem xstg_apply (c : Dev nD) (r : Fin 4096) (k : Fin 256) :
    xstg m ρ c (ix2 r k) = m ((c : Thread nD τ).loc main_arg0) (ix2 (n0 := 4096) (n1 := 256) r k) := by
  unfold xstg
  rw [View.read_apply]
  refine congrArg (m ((c : Thread nD τ).loc main_arg0)) (funext fun a => Fin.ext ?_)
  match a with
  | ⟨0, _⟩ => show 0 * 4096 + 1 * r.val = r.val; omega
  | ⟨1, _⟩ => show 0 * 256 + 1 * k.val = k.val; omega

end Any

/-! ## Over the extended reals -/

variable (m : (ℓ : Loc nD τ sig) → Buf (Elt Ideal) ℓ) (ρ : Dev nD → PrngReg)

/-- Narrowing changes nothing. -/
theorem xbf_ideal (c : Dev nD) (y : S4096x256.Idx) : (xbf m ρ c y : EReal) = xstg m ρ c y := by
  unfold xbf k0_pay1
  simp only [shapeCast_self]
  rfl

/-- A product at an index, as a sum over the contracted coordinate. -/
theorem prod_apply (g : Vec Ideal S256x256 .bf16) (w : Vec Ideal S256x2048 .f32) (i : Fin 256) (j : Fin 2048) :
    (prod (F := Ideal) g w (ix2 i j) : EReal) = ∑ k : Fin 256, (g (ix2 i k) : EReal) * w (ix2 k j) := by
  show FloatOps.matmul (DotDims.plain 256 256 2048) none g (truncf .bf16 w bitsLt_bf16_f32 : FVec Ideal S256x2048 .bf16)
    (constant S256x2048 .f32 0x00000000#32) (ix2 i j) = _
  rw [Ideal.matmul_plain_apply]
  have h0 : (constant S256x2048 .f32 0x00000000#32 : FVec Ideal S256x2048 .f32) (ix2 i j) = (0 : EReal) := Ideal.ofBits_zero_f32
  rw [h0, zero_add]; rfl

/-- The stretch of the long sum that device `d` contributes to device `c`'s result. -/
def part (c d : Dev nD) (i : Fin 256) (j : Fin 2048) : EReal :=
  ∑ k : Fin 256, (xblk m ρ d c (ix2 i k) : EReal) * wblk m ρ c d (ix2 k j)

/-- What device `c`'s result holds after the products of indices `0` to `n`: those stretches' sum. -/
theorem acc_apply (c : Dev nD) (i : Fin 256) (j : Fin 2048) : ∀ n : ℕ,
    (acc m ρ c n (ix2 i j) : EReal) = ∑ s ∈ Finset.range (n + 1), part m ρ c (src c (it s)) i j
  | 0 => by
    rw [Finset.sum_range_one]
    have h : src c (it 0) = c := by revert c; decide +kernel
    show (prod (F := Ideal) _ _ (ix2 i j) : EReal) = _
    rw [prod_apply]; unfold part; rw [h]
  | n + 1 => by
    rw [Finset.sum_range_succ, ← acc_apply c i j n]
    show ((acc m ρ c n (ix2 i j) : EReal) + prod (F := Ideal) _ _ (ix2 i j) : EReal) = _
    rw [prod_apply]; rfl

/-- The result is every device's stretch once. -/
theorem acc_all (c : Dev nD) (i : Fin 256) (j : Fin 2048) :
    (acc m ρ c 15 (ix2 i j) : EReal) = ∑ d : Dev nD, part m ρ c d i j := by
  rw [acc_apply, Finset.sum_range]
  refine Eq.trans ?_ (Equiv.sum_comp (around c) fun d => part m ρ c d i j)
  refine Finset.sum_congr rfl fun s _ => ?_
  have h : it s.val = s := Fin.ext (Nat.mod_eq_of_lt s.isLt)
  rw [h]; rfl

/-- The whole product. -/
def whole (X : FVec Ideal Cert.ReferenceIdeal.S4096x4096 .f32) (W : FVec Ideal S4096x2048 .f32) : FVec Ideal S4096x2048 .f32 :=
  Host.dotGeneral Cert.ReferenceIdeal.dot_S4096x4096_S4096x2048_S4096x2048_1_0_0_1_n_n none X W

/-- The whole product at an index, stretch by stretch. -/
theorem whole_apply (X : FVec Ideal Cert.ReferenceIdeal.S4096x4096 .f32) (W : FVec Ideal S4096x2048 .f32) (r : Fin 4096) (j : Fin 2048) :
    (whole X W (ix2 r j) : EReal)
      = ∑ d : Fin 16, ∑ k : Fin 256, (X (ix2 r ⟨d.val * 256 + k.val, by omega⟩) : EReal) * W (ix2 ⟨d.val * 256 + k.val, by omega⟩ j) := by
  show (Host.dotGeneral (DotDims.plain 4096 4096 2048) none X W (ix2 r j) : EReal) = _
  rw [StackMember.dotGeneral_plain_apply]
  exact Fin.sum_univ_tiles 16 256 rfl fun k : Fin 4096 => (X (ix2 r k) : EReal) * W (ix2 k j)

/-- Device `c`'s result is its block of rows of the whole product, if each device was given its block of columns of the left
    operand, and all of the right one. -/
theorem acc_eq_block (X : FVec Ideal Cert.ReferenceIdeal.S4096x4096 .f32) (W : FVec Ideal S4096x2048 .f32)
    (hX : ∀ c : Dev nD, m ((c : Thread nD τ).loc main_arg0) = Layout.block ⟨2, ![4096, 256]⟩ ⟨2, ![4096, 4096]⟩ 1 16 c X)
    (hW : ∀ c : Dev nD, m ((c : Thread nD τ).loc main_arg1) = W) (c : Dev nD) :
    acc m ρ c 15 = Layout.block ⟨2, ![256, 2048]⟩ ⟨2, ![4096, 2048]⟩ 0 16 c (whole X W) := by
  funext y
  obtain ⟨i, j, rfl⟩ : ∃ (i : Fin 256) (j : Fin 2048), y = ix2 i j := ⟨y 0, y 1, eq_ix2 y⟩
  rw [acc_all, Layout.block_apply]
  have hc := c.isLt
  have hr : (Layout.Tiles.idx (S := ⟨2, ![256, 2048]⟩) (T := ⟨2, ![4096, 2048]⟩) (a := 0) (k := 16) (by decide) c (ix2 i j))
      = ix2 ⟨c.val * 256 + i.val, by have : nD = 16 := rfl; omega⟩ j := by
    funext a; apply Fin.ext
    match a with
    | ⟨0, _⟩ => rfl
    | ⟨1, _⟩ => rfl
  rw [hr, whole_apply]
  refine Finset.sum_congr rfl fun d _ => Finset.sum_congr rfl fun k _ => ?_
  rw [xblk_apply, xbf_ideal, xstg_apply, wblk_apply, hX d, hW c, Layout.block_apply]
  refine congrArg₂ (fun a b : EReal => a * b) (congrArg X (funext fun a => Fin.ext ?_)) (congrArg W (funext fun a => Fin.ext ?_))
  · match a with
    | ⟨0, _⟩ => show 256 * c.val + i.val = c.val * 256 + i.val; omega
    | ⟨1, _⟩ => rfl
  · match a with
    | ⟨0, _⟩ => show 256 * d.val + k.val = d.val * 256 + k.val; omega
    | ⟨1, _⟩ => rfl

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

set_option maxRecDepth 65536

noncomputable section

namespace Cert.Proof

open Idealize.ShloMosaic Idealize.SL.Sem Cert.Kernel

/-- What a final state of the launch says of the arguments and of the counters: each device's two arguments are as at the launch,
    every counter is zero. -/
theorem kept {F : FTy → Type} [FloatOps F] (m : (ℓ : Loc Cert.KernelIdeal.nD Cert.KernelIdeal.τ Cert.KernelIdeal.sig) → Buf (Elt F) ℓ)
    (ρ : Dev Cert.KernelIdeal.nD → PrngReg) {r} (h : Cert.Exchange.QC m ρ r ∧ r.2.sem = fun _ => 0) :
    (∀ c : Dev Cert.KernelIdeal.nD,
      r.2.mem ((c.tc : Thread Cert.KernelIdeal.nD Cert.KernelIdeal.τ).loc Cert.KernelIdeal.main_arg0) = m ((c.tc : Thread _ _).loc Cert.KernelIdeal.main_arg0)
      ∧ r.2.mem ((c.tc : Thread Cert.KernelIdeal.nD Cert.KernelIdeal.τ).loc Cert.KernelIdeal.main_arg1) = m ((c.tc : Thread _ _).loc Cert.KernelIdeal.main_arg1))
    ∧ r.2.sem = fun _ => 0 :=
  ⟨fun c => ⟨((h.1 c).1 (0 : Fin 2)).trans (Cert.Exchange.finalA_in m ρ c), (h.1 c).2⟩, h.2⟩

/-- The two printings of the kernel have the same bodies; -/
theorem bodies : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) => rfl
/-- so their tables are the same. -/
theorem tables : Cert.Kernel.defs (F := Bits) = Cert.KernelIdeal.defs (F := Bits) := congrArg (Pipeline.defs Cert.Kernel.pcfgs) bodies

/-- The kernel as printed, its floats bit patterns: it ends with its arguments kept and its counters at zero. -/
theorem frame_kernel : Cert.quiescent_Kernel := fun m ρ _ => by
  have h := (θ_run Cert.KernelIdeal.defs _ _).mono (fun _ h => kept (F := Bits) m ρ h) (Cert.Exchange.run_main (F := Bits) m ρ)
  rw [← tables] at h
  exact h

/-- The same of the kernel read with extended reals for its floats. -/
theorem frame_kernelIdeal : Cert.quiescent_KernelIdeal := fun m ρ _ =>
  (θ_run Cert.KernelIdeal.defs _ _).mono (fun _ h => kept (F := Ideal) m ρ h) (Cert.Exchange.run_main (F := Ideal) m ρ)

/-- The reference: one host operation, and no semaphore declared. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reading with extended reals rewrote nothing. -/
theorem preserves : Cert.preserves_Kernel_KernelIdeal := trivial

/-- Over the extended reals, from arguments that agree, each device ends with its block of rows of the reference's result. -/
theorem algebraic : Cert.algebraic_KernelIdeal_ReferenceIdeal := by
  intro m g m' g' _ hag
  refine ⟨Cert.Exchange.whole (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)), ?_, ?_⟩
  · refine (θ_run Cert.KernelIdeal.defs _ _).mono (fun _ h c => ⟨?_, (kept (F := Ideal) m g h).1 c⟩) (Cert.Exchange.run_main (F := Ideal) m g)
    exact ((h.1 c).1 (1 : Fin 2)).trans ((Cert.Exchange.finalA_out m g c).trans
      (Cert.Exchange.acc_eq_block m g _ _ (fun d => (hag d).1) (fun d => (hag d).2) c))
  · exact (θ_run Cert.ReferenceIdeal.defs _ _).mono (fun _ h => h 0) (Cert.ReferenceIdeal.Value.run (F := Ideal) m' g')

/-- Everything the certificate claims. -/
theorem claim : Cert.Claim := ⟨Cert.Kernel.Gen.facts, Cert.KernelIdeal.Gen.facts, Cert.ReferenceIdeal.Gen.facts,
  frame_kernel, frame_kernelIdeal, frame_reference, preserves, algebraic⟩

end Cert.Proof

end
